-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x2 : Shape := ⟨2, ![16384, 2]⟩
abbrev S1000000x1 : Shape := ⟨2, ![1000000, 1]⟩
abbrev S1 : Shape := ⟨1, ![1]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x2 32) (main_arg1 : FVec F S1000000x1 .f32) (main_arg2 : FVec F S1 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 500000#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  main_v5
-- ==== Kernel.lean ====
abbrev S16384x2 : Shape := ⟨2, ![16384, 2]⟩
abbrev S1000000x1 : Shape := ⟨2, ![1000000, 1]⟩
abbrev S1 : Shape := ⟨1, ![1]⟩
abbrev S32768 : Shape := ⟨1, ![32768]⟩
abbrev S1000000 : Shape := ⟨1, ![1000000]⟩
abbrev S16 : Shape := ⟨1, ![16]⟩
abbrev S16384 : Shape := ⟨1, ![16384]⟩
abbrev S256 : Shape := ⟨1, ![256]⟩
abbrev S128 : Shape := ⟨1, ![128]⟩
abbrev S_ : Shape := ⟨0, ![]⟩
abbrev S16384x1 : Shape := ⟨2, ![16384, 1]⟩

abbrev nBuf : Table → Nat
  | .hbm => 8
  | .local .scVector .vmem => 17
  | _ => 0

abbrev bufTy : (tb : Table) → Fin (nBuf tb) → BufTy
  | .hbm, ⟨0, _⟩ => ⟨S16384x2, .i32⟩
  | .hbm, ⟨1, _⟩ => ⟨S1000000x1, .f32⟩
  | .hbm, ⟨2, _⟩ => ⟨S1, .f32⟩
  | .hbm, ⟨3, _⟩ => ⟨S32768, .i32⟩
  | .hbm, ⟨4, _⟩ => ⟨S1000000, .f32⟩
  | .hbm, ⟨5, _⟩ => ⟨S16, .f32⟩
  | .hbm, ⟨6, _⟩ => ⟨S16384, .f32⟩
  | .hbm, ⟨7, _⟩ => ⟨S16384x1, .f32⟩
  | .local .scVector .vmem, ⟨0, _⟩ => ⟨S256, .i32⟩
  | .local .scVector .vmem, ⟨1, _⟩ => ⟨S256, .i32⟩
  | .local .scVector .vmem, ⟨2, _⟩ => ⟨S256, .f32⟩
  | .local .scVector .vmem, ⟨3, _⟩ => ⟨S128, .f32⟩
  | .local .scVector .vmem, ⟨4, _⟩ => ⟨S256, .i32⟩
  | .local .scVector .vmem, ⟨5, _⟩ => ⟨S256, .i32⟩
  | .local .scVector .vmem, ⟨6, _⟩ => ⟨S256, .f32⟩
  | .local .scVector .vmem, ⟨7, _⟩ => ⟨S128, .f32⟩
  | .local .scVector .vmem, ⟨8, _⟩ => ⟨S256, .i32⟩
  | .local .scVector .vmem, ⟨9, _⟩ => ⟨S256, .i32⟩
  | .local .scVector .vmem, ⟨10, _⟩ => ⟨S256, .f32⟩
  | .local .scVector .vmem, ⟨11, _⟩ => ⟨S128, .f32⟩
  | .local .scVector .vmem, ⟨12, _⟩ => ⟨S256, .i32⟩
  | .local .scVector .vmem, ⟨13, _⟩ => ⟨S256, .i32⟩
  | .local .scVector .vmem, ⟨14, _⟩ => ⟨S256, .f32⟩
  | .local .scVector .vmem, ⟨15, _⟩ => ⟨S128, .f32⟩
  | .local .scVector .vmem, ⟨16, _⟩ => ⟨S16, .f32⟩
  | _, _ => ⟨S16384x2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let v4 : BitVec 32 := Scalar.muli c2_i32_0 v3
  ![v4.toNat]

def k0_chk1 (v31 : IVec S16 32) : Prop :=
  (∀ a x, ((![v31] : Fin 1 → IVec S16 32) a x).toNat < S256.size a)
theorem k0_idx1_inb : ∀ (v31 : IVec S16 32) (k0_hw1 : k0_chk1 v31), ∀ a x, ((![v31] : Fin 1 → IVec S16 32) a x).toNat < S256.size a := fun v31 k0_hw1 => k0_hw1

def k0_chk2 (v34 : IVec S16 32) : Prop :=
  (∀ a x, ((![v34] : Fin 1 → IVec S16 32) a x).toNat < S256.size a)
theorem k0_idx2_inb : ∀ (v34 : IVec S16 32) (k0_hw2 : k0_chk2 v34), ∀ a x, ((![v34] : Fin 1 → IVec S16 32) a x).toNat < S256.size a := fun v34 k0_hw2 => k0_hw2

def k0_chk3 (v38 : IVec S16 32) : Prop :=
  (∀ a x, ((![v38] : Fin 1 → IVec S16 32) a x).toNat < S256.size a)
theorem k0_idx3_inb : ∀ (v38 : IVec S16 32) (k0_hw3 : k0_chk3 v38), ∀ a x, ((![v38] : Fin 1 → IVec S16 32) a x).toNat < S256.size a := fun v38 k0_hw3 => k0_hw3

def k0_chk4 (v41 : IVec S16 32) : Prop :=
  (∀ a x, ((![v41] : Fin 1 → IVec S16 32) a x).toNat < S256.size a)
theorem k0_idx4_inb : ∀ (v41 : IVec S16 32) (k0_hw4 : k0_chk4 v41), ∀ a x, ((![v41] : Fin 1 → IVec S16 32) a x).toNat < S256.size a := fun v41 k0_hw4 => k0_hw4

def k0_chk5 (v53 : IVec S16 32) : Prop :=
  (∀ a x, ((![v53] : Fin 1 → IVec S16 32) a x).toNat < S256.size a)
theorem k0_idx5_inb : ∀ (v53 : IVec S16 32) (k0_hw5 : k0_chk5 v53), ∀ a x, ((![v53] : Fin 1 → IVec S16 32) a x).toNat < S256.size a := fun v53 k0_hw5 => k0_hw5

def k0_chk6 (v56 : IVec S16 32) : Prop :=
  (∀ a x, ((![v56] : Fin 1 → IVec S16 32) a x).toNat < S256.size a)
theorem k0_idx6_inb : ∀ (v56 : IVec S16 32) (k0_hw6 : k0_chk6 v56), ∀ a x, ((![v56] : Fin 1 → IVec S16 32) a x).toNat < S256.size a := fun v56 k0_hw6 => k0_hw6

def k0_chk7 (v60 : IVec S16 32) : Prop :=
  (∀ a x, ((![v60] : Fin 1 → IVec S16 32) a x).toNat < S256.size a)
theorem k0_idx7_inb : ∀ (v60 : IVec S16 32) (k0_hw7 : k0_chk7 v60), ∀ a x, ((![v60] : Fin 1 → IVec S16 32) a x).toNat < S256.size a := fun v60 k0_hw7 => k0_hw7

def k0_chk8 (v63 : IVec S16 32) : Prop :=
  (∀ a x, ((![v63] : Fin 1 → IVec S16 32) a x).toNat < S256.size a)
theorem k0_idx8_inb : ∀ (v63 : IVec S16 32) (k0_hw8 : k0_chk8 v63), ∀ a x, ((![v63] : Fin 1 → IVec S16 32) a x).toNat < S256.size a := fun v63 k0_hw8 => k0_hw8

def k0_chk9 (v75 : IVec S16 32) : Prop :=
  (∀ a x, ((![v75] : Fin 1 → IVec S16 32) a x).toNat < S256.size a)
theorem k0_idx9_inb : ∀ (v75 : IVec S16 32) (k0_hw9 : k0_chk9 v75), ∀ a x, ((![v75] : Fin 1 → IVec S16 32) a x).toNat < S256.size a := fun v75 k0_hw9 => k0_hw9

def k0_chk10 (v78 : IVec S16 32) : Prop :=
  (∀ a x, ((![v78] : Fin 1 → IVec S16 32) a x).toNat < S256.size a)
theorem k0_idx10_inb : ∀ (v78 : IVec S16 32) (k0_hw10 : k0_chk10 v78), ∀ a x, ((![v78] : Fin 1 → IVec S16 32) a x).toNat < S256.size a := fun v78 k0_hw10 => k0_hw10

def k0_chk11 (v82 : IVec S16 32) : Prop :=
  (∀ a x, ((![v82] : Fin 1 → IVec S16 32) a x).toNat < S256.size a)
theorem k0_idx11_inb : ∀ (v82 : IVec S16 32) (k0_hw11 : k0_chk11 v82), ∀ a x, ((![v82] : Fin 1 → IVec S16 32) a x).toNat < S256.size a := fun v82 k0_hw11 => k0_hw11

def k0_chk12 (v85 : IVec S16 32) : Prop :=
  (∀ a x, ((![v85] : Fin 1 → IVec S16 32) a x).toNat < S256.size a)
theorem k0_idx12_inb : ∀ (v85 : IVec S16 32) (k0_hw12 : k0_chk12 v85), ∀ a x, ((![v85] : Fin 1 → IVec S16 32) a x).toNat < S256.size a := fun v85 k0_hw12 => k0_hw12

def k0_chk13 (v97 : IVec S16 32) : Prop :=
  (∀ a x, ((![v97] : Fin 1 → IVec S16 32) a x).toNat < S256.size a)
theorem k0_idx13_inb : ∀ (v97 : IVec S16 32) (k0_hw13 : k0_chk13 v97), ∀ a x, ((![v97] : Fin 1 → IVec S16 32) a x).toNat < S256.size a := fun v97 k0_hw13 => k0_hw13

def k0_chk14 (v100 : IVec S16 32) : Prop :=
  (∀ a x, ((![v100] : Fin 1 → IVec S16 32) a x).toNat < S256.size a)
theorem k0_idx14_inb : ∀ (v100 : IVec S16 32) (k0_hw14 : k0_chk14 v100), ∀ a x, ((![v100] : Fin 1 → IVec S16 32) a x).toNat < S256.size a := fun v100 k0_hw14 => k0_hw14

def k0_chk15 (v104 : IVec S16 32) : Prop :=
  (∀ a x, ((![v104] : Fin 1 → IVec S16 32) a x).toNat < S256.size a)
theorem k0_idx15_inb : ∀ (v104 : IVec S16 32) (k0_hw15 : k0_chk15 v104), ∀ a x, ((![v104] : Fin 1 → IVec S16 32) a x).toNat < S256.size a := fun v104 k0_hw15 => k0_hw15

def k0_chk16 (v107 : IVec S16 32) : Prop :=
  (∀ a x, ((![v107] : Fin 1 → IVec S16 32) a x).toNat < S256.size a)
theorem k0_idx16_inb : ∀ (v107 : IVec S16 32) (k0_hw16 : k0_chk16 v107), ∀ a x, ((![v107] : Fin 1 → IVec S16 32) a x).toNat < S256.size a := fun v107 k0_hw16 => k0_hw16

def k0_chk17 (v119 : IVec S16 32) : Prop :=
  (∀ a x, ((![v119] : Fin 1 → IVec S16 32) a x).toNat < S256.size a)
theorem k0_idx17_inb : ∀ (v119 : IVec S16 32) (k0_hw17 : k0_chk17 v119), ∀ a x, ((![v119] : Fin 1 → IVec S16 32) a x).toNat < S256.size a := fun v119 k0_hw17 => k0_hw17

def k0_chk18 (v122 : IVec S16 32) : Prop :=
  (∀ a x, ((![v122] : Fin 1 → IVec S16 32) a x).toNat < S256.size a)
theorem k0_idx18_inb : ∀ (v122 : IVec S16 32) (k0_hw18 : k0_chk18 v122), ∀ a x, ((![v122] : Fin 1 → IVec S16 32) a x).toNat < S256.size a := fun v122 k0_hw18 => k0_hw18

def k0_chk19 (v126 : IVec S16 32) : Prop :=
  (∀ a x, ((![v126] : Fin 1 → IVec S16 32) a x).toNat < S256.size a)
theorem k0_idx19_inb : ∀ (v126 : IVec S16 32) (k0_hw19 : k0_chk19 v126), ∀ a x, ((![v126] : Fin 1 → IVec S16 32) a x).toNat < S256.size a := fun v126 k0_hw19 => k0_hw19

def k0_chk20 (v129 : IVec S16 32) : Prop :=
  (∀ a x, ((![v129] : Fin 1 → IVec S16 32) a x).toNat < S256.size a)
theorem k0_idx20_inb : ∀ (v129 : IVec S16 32) (k0_hw20 : k0_chk20 v129), ∀ a x, ((![v129] : Fin 1 → IVec S16 32) a x).toNat < S256.size a := fun v129 k0_hw20 => k0_hw20

def k0_chk21 (v141 : IVec S16 32) : Prop :=
  (∀ a x, ((![v141] : Fin 1 → IVec S16 32) a x).toNat < S256.size a)
theorem k0_idx21_inb : ∀ (v141 : IVec S16 32) (k0_hw21 : k0_chk21 v141), ∀ a x, ((![v141] : Fin 1 → IVec S16 32) a x).toNat < S256.size a := fun v141 k0_hw21 => k0_hw21

def k0_chk22 (v144 : IVec S16 32) : Prop :=
  (∀ a x, ((![v144] : Fin 1 → IVec S16 32) a x).toNat < S256.size a)
theorem k0_idx22_inb : ∀ (v144 : IVec S16 32) (k0_hw22 : k0_chk22 v144), ∀ a x, ((![v144] : Fin 1 → IVec S16 32) a x).toNat < S256.size a := fun v144 k0_hw22 => k0_hw22

def k0_chk23 (v148 : IVec S16 32) : Prop :=
  (∀ a x, ((![v148] : Fin 1 → IVec S16 32) a x).toNat < S256.size a)
theorem k0_idx23_inb : ∀ (v148 : IVec S16 32) (k0_hw23 : k0_chk23 v148), ∀ a x, ((![v148] : Fin 1 → IVec S16 32) a x).toNat < S256.size a := fun v148 k0_hw23 => k0_hw23

def k0_chk24 (v151 : IVec S16 32) : Prop :=
  (∀ a x, ((![v151] : Fin 1 → IVec S16 32) a x).toNat < S256.size a)
theorem k0_idx24_inb : ∀ (v151 : IVec S16 32) (k0_hw24 : k0_chk24 v151), ∀ a x, ((![v151] : Fin 1 → IVec S16 32) a x).toNat < S256.size a := fun v151 k0_hw24 => k0_hw24

def k0_chk25 (v163 : IVec S16 32) : Prop :=
  (∀ a x, ((![v163] : Fin 1 → IVec S16 32) a x).toNat < S256.size a)
theorem k0_idx25_inb : ∀ (v163 : IVec S16 32) (k0_hw25 : k0_chk25 v163), ∀ a x, ((![v163] : Fin 1 → IVec S16 32) a x).toNat < S256.size a := fun v163 k0_hw25 => k0_hw25

def k0_chk26 (v166 : IVec S16 32) : Prop :=
  (∀ a x, ((![v166] : Fin 1 → IVec S16 32) a x).toNat < S256.size a)
theorem k0_idx26_inb : ∀ (v166 : IVec S16 32) (k0_hw26 : k0_chk26 v166), ∀ a x, ((![v166] : Fin 1 → IVec S16 32) a x).toNat < S256.size a := fun v166 k0_hw26 => k0_hw26

def k0_chk27 (v170 : IVec S16 32) : Prop :=
  (∀ a x, ((![v170] : Fin 1 → IVec S16 32) a x).toNat < S256.size a)
theorem k0_idx27_inb : ∀ (v170 : IVec S16 32) (k0_hw27 : k0_chk27 v170), ∀ a x, ((![v170] : Fin 1 → IVec S16 32) a x).toNat < S256.size a := fun v170 k0_hw27 => k0_hw27

def k0_chk28 (v173 : IVec S16 32) : Prop :=
  (∀ a x, ((![v173] : Fin 1 → IVec S16 32) a x).toNat < S256.size a)
theorem k0_idx28_inb : ∀ (v173 : IVec S16 32) (k0_hw28 : k0_chk28 v173), ∀ a x, ((![v173] : Fin 1 → IVec S16 32) a x).toNat < S256.size a := fun v173 k0_hw28 => k0_hw28

def k0_chk29 (v185 : IVec S16 32) : Prop :=
  (∀ a x, ((![v185] : Fin 1 → IVec S16 32) a x).toNat < S256.size a)
theorem k0_idx29_inb : ∀ (v185 : IVec S16 32) (k0_hw29 : k0_chk29 v185), ∀ a x, ((![v185] : Fin 1 → IVec S16 32) a x).toNat < S256.size a := fun v185 k0_hw29 => k0_hw29

def k0_chk30 (v188 : IVec S16 32) : Prop :=
  (∀ a x, ((![v188] : Fin 1 → IVec S16 32) a x).toNat < S256.size a)
theorem k0_idx30_inb : ∀ (v188 : IVec S16 32) (k0_hw30 : k0_chk30 v188), ∀ a x, ((![v188] : Fin 1 → IVec S16 32) a x).toNat < S256.size a := fun v188 k0_hw30 => k0_hw30

def k0_chk31 (v192 : IVec S16 32) : Prop :=
  (∀ a x, ((![v192] : Fin 1 → IVec S16 32) a x).toNat < S256.size a)
theorem k0_idx31_inb : ∀ (v192 : IVec S16 32) (k0_hw31 : k0_chk31 v192), ∀ a x, ((![v192] : Fin 1 → IVec S16 32) a x).toNat < S256.size a := fun v192 k0_hw31 => k0_hw31

def k0_chk32 (v195 : IVec S16 32) : Prop :=
  (∀ a x, ((![v195] : Fin 1 → IVec S16 32) a x).toNat < S256.size a)
theorem k0_idx32_inb : ∀ (v195 : IVec S16 32) (k0_hw32 : k0_chk32 v195), ∀ a x, ((![v195] : Fin 1 → IVec S16 32) a x).toNat < S256.size a := fun v195 k0_hw32 => k0_hw32
def k0_off2 (i : grid0.Coords) : Fin 1 → Nat :=
  let c2_i32_1 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c128_i32 : BitVec 32 := 128#32
  let v7 : BitVec 32 := Scalar.addi v2 c128_i32
  let v8 : BitVec 32 := Scalar.muli c2_i32_1 v7
  ![v8.toNat]

def k0_chk33 (v210 : IVec S16 32) : Prop :=
  (∀ a x, ((![v210] : Fin 1 → IVec S16 32) a x).toNat < S256.size a)
theorem k0_idx33_inb : ∀ (v210 : IVec S16 32) (k0_hw33 : k0_chk33 v210), ∀ a x, ((![v210] : Fin 1 → IVec S16 32) a x).toNat < S256.size a := fun v210 k0_hw33 => k0_hw33

def k0_chk34 (v213 : IVec S16 32) : Prop :=
  (∀ a x, ((![v213] : Fin 1 → IVec S16 32) a x).toNat < S256.size a)
theorem k0_idx34_inb : ∀ (v213 : IVec S16 32) (k0_hw34 : k0_chk34 v213), ∀ a x, ((![v213] : Fin 1 → IVec S16 32) a x).toNat < S256.size a := fun v213 k0_hw34 => k0_hw34

def k0_chk35 (v217 : IVec S16 32) : Prop :=
  (∀ a x, ((![v217] : Fin 1 → IVec S16 32) a x).toNat < S256.size a)
theorem k0_idx35_inb : ∀ (v217 : IVec S16 32) (k0_hw35 : k0_chk35 v217), ∀ a x, ((![v217] : Fin 1 → IVec S16 32) a x).toNat < S256.size a := fun v217 k0_hw35 => k0_hw35

def k0_chk36 (v220 : IVec S16 32) : Prop :=
  (∀ a x, ((![v220] : Fin 1 → IVec S16 32) a x).toNat < S256.size a)
theorem k0_idx36_inb : ∀ (v220 : IVec S16 32) (k0_hw36 : k0_chk36 v220), ∀ a x, ((![v220] : Fin 1 → IVec S16 32) a x).toNat < S256.size a := fun v220 k0_hw36 => k0_hw36

def k0_chk37 (v232 : IVec S16 32) : Prop :=
  (∀ a x, ((![v232] : Fin 1 → IVec S16 32) a x).toNat < S256.size a)
theorem k0_idx37_inb : ∀ (v232 : IVec S16 32) (k0_hw37 : k0_chk37 v232), ∀ a x, ((![v232] : Fin 1 → IVec S16 32) a x).toNat < S256.size a := fun v232 k0_hw37 => k0_hw37

def k0_chk38 (v235 : IVec S16 32) : Prop :=
  (∀ a x, ((![v235] : Fin 1 → IVec S16 32) a x).toNat < S256.size a)
theorem k0_idx38_inb : ∀ (v235 : IVec S16 32) (k0_hw38 : k0_chk38 v235), ∀ a x, ((![v235] : Fin 1 → IVec S16 32) a x).toNat < S256.size a := fun v235 k0_hw38 => k0_hw38

def k0_chk39 (v239 : IVec S16 32) : Prop :=
  (∀ a x, ((![v239] : Fin 1 → IVec S16 32) a x).toNat < S256.size a)
theorem k0_idx39_inb : ∀ (v239 : IVec S16 32) (k0_hw39 : k0_chk39 v239), ∀ a x, ((![v239] : Fin 1 → IVec S16 32) a x).toNat < S256.size a := fun v239 k0_hw39 => k0_hw39

def k0_chk40 (v242 : IVec S16 32) : Prop :=
  (∀ a x, ((![v242] : Fin 1 → IVec S16 32) a x).toNat < S256.size a)
theorem k0_idx40_inb : ∀ (v242 : IVec S16 32) (k0_hw40 : k0_chk40 v242), ∀ a x, ((![v242] : Fin 1 → IVec S16 32) a x).toNat < S256.size a := fun v242 k0_hw40 => k0_hw40

def k0_chk41 (v254 : IVec S16 32) : Prop :=
  (∀ a x, ((![v254] : Fin 1 → IVec S16 32) a x).toNat < S256.size a)
theorem k0_idx41_inb : ∀ (v254 : IVec S16 32) (k0_hw41 : k0_chk41 v254), ∀ a x, ((![v254] : Fin 1 → IVec S16 32) a x).toNat < S256.size a := fun v254 k0_hw41 => k0_hw41

def k0_chk42 (v257 : IVec S16 32) : Prop :=
  (∀ a x, ((![v257] : Fin 1 → IVec S16 32) a x).toNat < S256.size a)
theorem k0_idx42_inb : ∀ (v257 : IVec S16 32) (k0_hw42 : k0_chk42 v257), ∀ a x, ((![v257] : Fin 1 → IVec S16 32) a x).toNat < S256.size a := fun v257 k0_hw42 => k0_hw42

def k0_chk43 (v261 : IVec S16 32) : Prop :=
  (∀ a x, ((![v261] : Fin 1 → IVec S16 32) a x).toNat < S256.size a)
theorem k0_idx43_inb : ∀ (v261 : IVec S16 32) (k0_hw43 : k0_chk43 v261), ∀ a x, ((![v261] : Fin 1 → IVec S16 32) a x).toNat < S256.size a := fun v261 k0_hw43 => k0_hw43

def k0_chk44 (v264 : IVec S16 32) : Prop :=
  (∀ a x, ((![v264] : Fin 1 → IVec S16 32) a x).toNat < S256.size a)
theorem k0_idx44_inb : ∀ (v264 : IVec S16 32) (k0_hw44 : k0_chk44 v264), ∀ a x, ((![v264] : Fin 1 → IVec S16 32) a x).toNat < S256.size a := fun v264 k0_hw44 => k0_hw44

def k0_chk45 (v276 : IVec S16 32) : Prop :=
  (∀ a x, ((![v276] : Fin 1 → IVec S16 32) a x).toNat < S256.size a)
theorem k0_idx45_inb : ∀ (v276 : IVec S16 32) (k0_hw45 : k0_chk45 v276), ∀ a x, ((![v276] : Fin 1 → IVec S16 32) a x).toNat < S256.size a := fun v276 k0_hw45 => k0_hw45

def k0_chk46 (v279 : IVec S16 32) : Prop :=
  (∀ a x, ((![v279] : Fin 1 → IVec S16 32) a x).toNat < S256.size a)
theorem k0_idx46_inb : ∀ (v279 : IVec S16 32) (k0_hw46 : k0_chk46 v279), ∀ a x, ((![v279] : Fin 1 → IVec S16 32) a x).toNat < S256.size a := fun v279 k0_hw46 => k0_hw46

def k0_chk47 (v283 : IVec S16 32) : Prop :=
  (∀ a x, ((![v283] : Fin 1 → IVec S16 32) a x).toNat < S256.size a)
theorem k0_idx47_inb : ∀ (v283 : IVec S16 32) (k0_hw47 : k0_chk47 v283), ∀ a x, ((![v283] : Fin 1 → IVec S16 32) a x).toNat < S256.size a := fun v283 k0_hw47 => k0_hw47

def k0_chk48 (v286 : IVec S16 32) : Prop :=
  (∀ a x, ((![v286] : Fin 1 → IVec S16 32) a x).toNat < S256.size a)
theorem k0_idx48_inb : ∀ (v286 : IVec S16 32) (k0_hw48 : k0_chk48 v286), ∀ a x, ((![v286] : Fin 1 → IVec S16 32) a x).toNat < S256.size a := fun v286 k0_hw48 => k0_hw48

def k0_chk49 (v298 : IVec S16 32) : Prop :=
  (∀ a x, ((![v298] : Fin 1 → IVec S16 32) a x).toNat < S256.size a)
theorem k0_idx49_inb : ∀ (v298 : IVec S16 32) (k0_hw49 : k0_chk49 v298), ∀ a x, ((![v298] : Fin 1 → IVec S16 32) a x).toNat < S256.size a := fun v298 k0_hw49 => k0_hw49

def k0_chk50 (v301 : IVec S16 32) : Prop :=
  (∀ a x, ((![v301] : Fin 1 → IVec S16 32) a x).toNat < S256.size a)
theorem k0_idx50_inb : ∀ (v301 : IVec S16 32) (k0_hw50 : k0_chk50 v301), ∀ a x, ((![v301] : Fin 1 → IVec S16 32) a x).toNat < S256.size a := fun v301 k0_hw50 => k0_hw50

def k0_chk51 (v305 : IVec S16 32) : Prop :=
  (∀ a x, ((![v305] : Fin 1 → IVec S16 32) a x).toNat < S256.size a)
theorem k0_idx51_inb : ∀ (v305 : IVec S16 32) (k0_hw51 : k0_chk51 v305), ∀ a x, ((![v305] : Fin 1 → IVec S16 32) a x).toNat < S256.size a := fun v305 k0_hw51 => k0_hw51

def k0_chk52 (v308 : IVec S16 32) : Prop :=
  (∀ a x, ((![v308] : Fin 1 → IVec S16 32) a x).toNat < S256.size a)
theorem k0_idx52_inb : ∀ (v308 : IVec S16 32) (k0_hw52 : k0_chk52 v308), ∀ a x, ((![v308] : Fin 1 → IVec S16 32) a x).toNat < S256.size a := fun v308 k0_hw52 => k0_hw52

def k0_chk53 (v320 : IVec S16 32) : Prop :=
  (∀ a x, ((![v320] : Fin 1 → IVec S16 32) a x).toNat < S256.size a)
theorem k0_idx53_inb : ∀ (v320 : IVec S16 32) (k0_hw53 : k0_chk53 v320), ∀ a x, ((![v320] : Fin 1 → IVec S16 32) a x).toNat < S256.size a := fun v320 k0_hw53 => k0_hw53

def k0_chk54 (v323 : IVec S16 32) : Prop :=
  (∀ a x, ((![v323] : Fin 1 → IVec S16 32) a x).toNat < S256.size a)
theorem k0_idx54_inb : ∀ (v323 : IVec S16 32) (k0_hw54 : k0_chk54 v323), ∀ a x, ((![v323] : Fin 1 → IVec S16 32) a x).toNat < S256.size a := fun v323 k0_hw54 => k0_hw54

def k0_chk55 (v327 : IVec S16 32) : Prop :=
  (∀ a x, ((![v327] : Fin 1 → IVec S16 32) a x).toNat < S256.size a)
theorem k0_idx55_inb : ∀ (v327 : IVec S16 32) (k0_hw55 : k0_chk55 v327), ∀ a x, ((![v327] : Fin 1 → IVec S16 32) a x).toNat < S256.size a := fun v327 k0_hw55 => k0_hw55

def k0_chk56 (v330 : IVec S16 32) : Prop :=
  (∀ a x, ((![v330] : Fin 1 → IVec S16 32) a x).toNat < S256.size a)
theorem k0_idx56_inb : ∀ (v330 : IVec S16 32) (k0_hw56 : k0_chk56 v330), ∀ a x, ((![v330] : Fin 1 → IVec S16 32) a x).toNat < S256.size a := fun v330 k0_hw56 => k0_hw56

def k0_chk57 (v342 : IVec S16 32) : Prop :=
  (∀ a x, ((![v342] : Fin 1 → IVec S16 32) a x).toNat < S256.size a)
theorem k0_idx57_inb : ∀ (v342 : IVec S16 32) (k0_hw57 : k0_chk57 v342), ∀ a x, ((![v342] : Fin 1 → IVec S16 32) a x).toNat < S256.size a := fun v342 k0_hw57 => k0_hw57

def k0_chk58 (v345 : IVec S16 32) : Prop :=
  (∀ a x, ((![v345] : Fin 1 → IVec S16 32) a x).toNat < S256.size a)
theorem k0_idx58_inb : ∀ (v345 : IVec S16 32) (k0_hw58 : k0_chk58 v345), ∀ a x, ((![v345] : Fin 1 → IVec S16 32) a x).toNat < S256.size a := fun v345 k0_hw58 => k0_hw58

def k0_chk59 (v349 : IVec S16 32) : Prop :=
  (∀ a x, ((![v349] : Fin 1 → IVec S16 32) a x).toNat < S256.size a)
theorem k0_idx59_inb : ∀ (v349 : IVec S16 32) (k0_hw59 : k0_chk59 v349), ∀ a x, ((![v349] : Fin 1 → IVec S16 32) a x).toNat < S256.size a := fun v349 k0_hw59 => k0_hw59

def k0_chk60 (v352 : IVec S16 32) : Prop :=
  (∀ a x, ((![v352] : Fin 1 → IVec S16 32) a x).toNat < S256.size a)
theorem k0_idx60_inb : ∀ (v352 : IVec S16 32) (k0_hw60 : k0_chk60 v352), ∀ a x, ((![v352] : Fin 1 → IVec S16 32) a x).toNat < S256.size a := fun v352 k0_hw60 => k0_hw60

def k0_chk61 (v364 : IVec S16 32) : Prop :=
  (∀ a x, ((![v364] : Fin 1 → IVec S16 32) a x).toNat < S256.size a)
theorem k0_idx61_inb : ∀ (v364 : IVec S16 32) (k0_hw61 : k0_chk61 v364), ∀ a x, ((![v364] : Fin 1 → IVec S16 32) a x).toNat < S256.size a := fun v364 k0_hw61 => k0_hw61

def k0_chk62 (v367 : IVec S16 32) : Prop :=
  (∀ a x, ((![v367] : Fin 1 → IVec S16 32) a x).toNat < S256.size a)
theorem k0_idx62_inb : ∀ (v367 : IVec S16 32) (k0_hw62 : k0_chk62 v367), ∀ a x, ((![v367] : Fin 1 → IVec S16 32) a x).toNat < S256.size a := fun v367 k0_hw62 => k0_hw62

def k0_chk63 (v371 : IVec S16 32) : Prop :=
  (∀ a x, ((![v371] : Fin 1 → IVec S16 32) a x).toNat < S256.size a)
theorem k0_idx63_inb : ∀ (v371 : IVec S16 32) (k0_hw63 : k0_chk63 v371), ∀ a x, ((![v371] : Fin 1 → IVec S16 32) a x).toNat < S256.size a := fun v371 k0_hw63 => k0_hw63

def k0_chk64 (v374 : IVec S16 32) : Prop :=
  (∀ a x, ((![v374] : Fin 1 → IVec S16 32) a x).toNat < S256.size a)
theorem k0_idx64_inb : ∀ (v374 : IVec S16 32) (k0_hw64 : k0_chk64 v374), ∀ a x, ((![v374] : Fin 1 → IVec S16 32) a x).toNat < S256.size a := fun v374 k0_hw64 => k0_hw64
def k0_off3 (i : grid0.Coords) : Fin 1 → Nat :=
  let c2_i32_2 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v11 : BitVec 32 := Scalar.addi v2 c256_i32
  let v12 : BitVec 32 := Scalar.muli c2_i32_2 v11
  ![v12.toNat]

def k0_chk65 (v389 : IVec S16 32) : Prop :=
  (∀ a x, ((![v389] : Fin 1 → IVec S16 32) a x).toNat < S256.size a)
theorem k0_idx65_inb : ∀ (v389 : IVec S16 32) (k0_hw65 : k0_chk65 v389), ∀ a x, ((![v389] : Fin 1 → IVec S16 32) a x).toNat < S256.size a := fun v389 k0_hw65 => k0_hw65

def k0_chk66 (v392 : IVec S16 32) : Prop :=
  (∀ a x, ((![v392] : Fin 1 → IVec S16 32) a x).toNat < S256.size a)
theorem k0_idx66_inb : ∀ (v392 : IVec S16 32) (k0_hw66 : k0_chk66 v392), ∀ a x, ((![v392] : Fin 1 → IVec S16 32) a x).toNat < S256.size a := fun v392 k0_hw66 => k0_hw66

def k0_chk67 (v396 : IVec S16 32) : Prop :=
  (∀ a x, ((![v396] : Fin 1 → IVec S16 32) a x).toNat < S256.size a)
theorem k0_idx67_inb : ∀ (v396 : IVec S16 32) (k0_hw67 : k0_chk67 v396), ∀ a x, ((![v396] : Fin 1 → IVec S16 32) a x).toNat < S256.size a := fun v396 k0_hw67 => k0_hw67

def k0_chk68 (v399 : IVec S16 32) : Prop :=
  (∀ a x, ((![v399] : Fin 1 → IVec S16 32) a x).toNat < S256.size a)
theorem k0_idx68_inb : ∀ (v399 : IVec S16 32) (k0_hw68 : k0_chk68 v399), ∀ a x, ((![v399] : Fin 1 → IVec S16 32) a x).toNat < S256.size a := fun v399 k0_hw68 => k0_hw68

def k0_chk69 (v411 : IVec S16 32) : Prop :=
  (∀ a x, ((![v411] : Fin 1 → IVec S16 32) a x).toNat < S256.size a)
theorem k0_idx69_inb : ∀ (v411 : IVec S16 32) (k0_hw69 : k0_chk69 v411), ∀ a x, ((![v411] : Fin 1 → IVec S16 32) a x).toNat < S256.size a := fun v411 k0_hw69 => k0_hw69

def k0_chk70 (v414 : IVec S16 32) : Prop :=
  (∀ a x, ((![v414] : Fin 1 → IVec S16 32) a x).toNat < S256.size a)
theorem k0_idx70_inb : ∀ (v414 : IVec S16 32) (k0_hw70 : k0_chk70 v414), ∀ a x, ((![v414] : Fin 1 → IVec S16 32) a x).toNat < S256.size a := fun v414 k0_hw70 => k0_hw70

def k0_chk71 (v418 : IVec S16 32) : Prop :=
  (∀ a x, ((![v418] : Fin 1 → IVec S16 32) a x).toNat < S256.size a)
theorem k0_idx71_inb : ∀ (v418 : IVec S16 32) (k0_hw71 : k0_chk71 v418), ∀ a x, ((![v418] : Fin 1 → IVec S16 32) a x).toNat < S256.size a := fun v418 k0_hw71 => k0_hw71

def k0_chk72 (v421 : IVec S16 32) : Prop :=
  (∀ a x, ((![v421] : Fin 1 → IVec S16 32) a x).toNat < S256.size a)
theorem k0_idx72_inb : ∀ (v421 : IVec S16 32) (k0_hw72 : k0_chk72 v421), ∀ a x, ((![v421] : Fin 1 → IVec S16 32) a x).toNat < S256.size a := fun v421 k0_hw72 => k0_hw72

def k0_chk73 (v433 : IVec S16 32) : Prop :=
  (∀ a x, ((![v433] : Fin 1 → IVec S16 32) a x).toNat < S256.size a)
theorem k0_idx73_inb : ∀ (v433 : IVec S16 32) (k0_hw73 : k0_chk73 v433), ∀ a x, ((![v433] : Fin 1 → IVec S16 32) a x).toNat < S256.size a := fun v433 k0_hw73 => k0_hw73

def k0_chk74 (v436 : IVec S16 32) : Prop :=
  (∀ a x, ((![v436] : Fin 1 → IVec S16 32) a x).toNat < S256.size a)
theorem k0_idx74_inb : ∀ (v436 : IVec S16 32) (k0_hw74 : k0_chk74 v436), ∀ a x, ((![v436] : Fin 1 → IVec S16 32) a x).toNat < S256.size a := fun v436 k0_hw74 => k0_hw74

def k0_chk75 (v440 : IVec S16 32) : Prop :=
  (∀ a x, ((![v440] : Fin 1 → IVec S16 32) a x).toNat < S256.size a)
theorem k0_idx75_inb : ∀ (v440 : IVec S16 32) (k0_hw75 : k0_chk75 v440), ∀ a x, ((![v440] : Fin 1 → IVec S16 32) a x).toNat < S256.size a := fun v440 k0_hw75 => k0_hw75

def k0_chk76 (v443 : IVec S16 32) : Prop :=
  (∀ a x, ((![v443] : Fin 1 → IVec S16 32) a x).toNat < S256.size a)
theorem k0_idx76_inb : ∀ (v443 : IVec S16 32) (k0_hw76 : k0_chk76 v443), ∀ a x, ((![v443] : Fin 1 → IVec S16 32) a x).toNat < S256.size a := fun v443 k0_hw76 => k0_hw76

def k0_chk77 (v455 : IVec S16 32) : Prop :=
  (∀ a x, ((![v455] : Fin 1 → IVec S16 32) a x).toNat < S256.size a)
theorem k0_idx77_inb : ∀ (v455 : IVec S16 32) (k0_hw77 : k0_chk77 v455), ∀ a x, ((![v455] : Fin 1 → IVec S16 32) a x).toNat < S256.size a := fun v455 k0_hw77 => k0_hw77

def k0_chk78 (v458 : IVec S16 32) : Prop :=
  (∀ a x, ((![v458] : Fin 1 → IVec S16 32) a x).toNat < S256.size a)
theorem k0_idx78_inb : ∀ (v458 : IVec S16 32) (k0_hw78 : k0_chk78 v458), ∀ a x, ((![v458] : Fin 1 → IVec S16 32) a x).toNat < S256.size a := fun v458 k0_hw78 => k0_hw78

def k0_chk79 (v462 : IVec S16 32) : Prop :=
  (∀ a x, ((![v462] : Fin 1 → IVec S16 32) a x).toNat < S256.size a)
theorem k0_idx79_inb : ∀ (v462 : IVec S16 32) (k0_hw79 : k0_chk79 v462), ∀ a x, ((![v462] : Fin 1 → IVec S16 32) a x).toNat < S256.size a := fun v462 k0_hw79 => k0_hw79

def k0_chk80 (v465 : IVec S16 32) : Prop :=
  (∀ a x, ((![v465] : Fin 1 → IVec S16 32) a x).toNat < S256.size a)
theorem k0_idx80_inb : ∀ (v465 : IVec S16 32) (k0_hw80 : k0_chk80 v465), ∀ a x, ((![v465] : Fin 1 → IVec S16 32) a x).toNat < S256.size a := fun v465 k0_hw80 => k0_hw80

def k0_chk81 (v477 : IVec S16 32) : Prop :=
  (∀ a x, ((![v477] : Fin 1 → IVec S16 32) a x).toNat < S256.size a)
theorem k0_idx81_inb : ∀ (v477 : IVec S16 32) (k0_hw81 : k0_chk81 v477), ∀ a x, ((![v477] : Fin 1 → IVec S16 32) a x).toNat < S256.size a := fun v477 k0_hw81 => k0_hw81

def k0_chk82 (v480 : IVec S16 32) : Prop :=
  (∀ a x, ((![v480] : Fin 1 → IVec S16 32) a x).toNat < S256.size a)
theorem k0_idx82_inb : ∀ (v480 : IVec S16 32) (k0_hw82 : k0_chk82 v480), ∀ a x, ((![v480] : Fin 1 → IVec S16 32) a x).toNat < S256.size a := fun v480 k0_hw82 => k0_hw82

def k0_chk83 (v484 : IVec S16 32) : Prop :=
  (∀ a x, ((![v484] : Fin 1 → IVec S16 32) a x).toNat < S256.size a)
theorem k0_idx83_inb : ∀ (v484 : IVec S16 32) (k0_hw83 : k0_chk83 v484), ∀ a x, ((![v484] : Fin 1 → IVec S16 32) a x).toNat < S256.size a := fun v484 k0_hw83 => k0_hw83

def k0_chk84 (v487 : IVec S16 32) : Prop :=
  (∀ a x, ((![v487] : Fin 1 → IVec S16 32) a x).toNat < S256.size a)
theorem k0_idx84_inb : ∀ (v487 : IVec S16 32) (k0_hw84 : k0_chk84 v487), ∀ a x, ((![v487] : Fin 1 → IVec S16 32) a x).toNat < S256.size a := fun v487 k0_hw84 => k0_hw84

def k0_chk85 (v499 : IVec S16 32) : Prop :=
  (∀ a x, ((![v499] : Fin 1 → IVec S16 32) a x).toNat < S256.size a)
theorem k0_idx85_inb : ∀ (v499 : IVec S16 32) (k0_hw85 : k0_chk85 v499), ∀ a x, ((![v499] : Fin 1 → IVec S16 32) a x).toNat < S256.size a := fun v499 k0_hw85 => k0_hw85

def k0_chk86 (v502 : IVec S16 32) : Prop :=
  (∀ a x, ((![v502] : Fin 1 → IVec S16 32) a x).toNat < S256.size a)
theorem k0_idx86_inb : ∀ (v502 : IVec S16 32) (k0_hw86 : k0_chk86 v502), ∀ a x, ((![v502] : Fin 1 → IVec S16 32) a x).toNat < S256.size a := fun v502 k0_hw86 => k0_hw86

def k0_chk87 (v506 : IVec S16 32) : Prop :=
  (∀ a x, ((![v506] : Fin 1 → IVec S16 32) a x).toNat < S256.size a)
theorem k0_idx87_inb : ∀ (v506 : IVec S16 32) (k0_hw87 : k0_chk87 v506), ∀ a x, ((![v506] : Fin 1 → IVec S16 32) a x).toNat < S256.size a := fun v506 k0_hw87 => k0_hw87

def k0_chk88 (v509 : IVec S16 32) : Prop :=
  (∀ a x, ((![v509] : Fin 1 → IVec S16 32) a x).toNat < S256.size a)
theorem k0_idx88_inb : ∀ (v509 : IVec S16 32) (k0_hw88 : k0_chk88 v509), ∀ a x, ((![v509] : Fin 1 → IVec S16 32) a x).toNat < S256.size a := fun v509 k0_hw88 => k0_hw88

def k0_chk89 (v521 : IVec S16 32) : Prop :=
  (∀ a x, ((![v521] : Fin 1 → IVec S16 32) a x).toNat < S256.size a)
theorem k0_idx89_inb : ∀ (v521 : IVec S16 32) (k0_hw89 : k0_chk89 v521), ∀ a x, ((![v521] : Fin 1 → IVec S16 32) a x).toNat < S256.size a := fun v521 k0_hw89 => k0_hw89

def k0_chk90 (v524 : IVec S16 32) : Prop :=
  (∀ a x, ((![v524] : Fin 1 → IVec S16 32) a x).toNat < S256.size a)
theorem k0_idx90_inb : ∀ (v524 : IVec S16 32) (k0_hw90 : k0_chk90 v524), ∀ a x, ((![v524] : Fin 1 → IVec S16 32) a x).toNat < S256.size a := fun v524 k0_hw90 => k0_hw90

def k0_chk91 (v528 : IVec S16 32) : Prop :=
  (∀ a x, ((![v528] : Fin 1 → IVec S16 32) a x).toNat < S256.size a)
theorem k0_idx91_inb : ∀ (v528 : IVec S16 32) (k0_hw91 : k0_chk91 v528), ∀ a x, ((![v528] : Fin 1 → IVec S16 32) a x).toNat < S256.size a := fun v528 k0_hw91 => k0_hw91

def k0_chk92 (v531 : IVec S16 32) : Prop :=
  (∀ a x, ((![v531] : Fin 1 → IVec S16 32) a x).toNat < S256.size a)
theorem k0_idx92_inb : ∀ (v531 : IVec S16 32) (k0_hw92 : k0_chk92 v531), ∀ a x, ((![v531] : Fin 1 → IVec S16 32) a x).toNat < S256.size a := fun v531 k0_hw92 => k0_hw92

def k0_chk93 (v543 : IVec S16 32) : Prop :=
  (∀ a x, ((![v543] : Fin 1 → IVec S16 32) a x).toNat < S256.size a)
theorem k0_idx93_inb : ∀ (v543 : IVec S16 32) (k0_hw93 : k0_chk93 v543), ∀ a x, ((![v543] : Fin 1 → IVec S16 32) a x).toNat < S256.size a := fun v543 k0_hw93 => k0_hw93

def k0_chk94 (v546 : IVec S16 32) : Prop :=
  (∀ a x, ((![v546] : Fin 1 → IVec S16 32) a x).toNat < S256.size a)
theorem k0_idx94_inb : ∀ (v546 : IVec S16 32) (k0_hw94 : k0_chk94 v546), ∀ a x, ((![v546] : Fin 1 → IVec S16 32) a x).toNat < S256.size a := fun v546 k0_hw94 => k0_hw94

def k0_chk95 (v550 : IVec S16 32) : Prop :=
  (∀ a x, ((![v550] : Fin 1 → IVec S16 32) a x).toNat < S256.size a)
theorem k0_idx95_inb : ∀ (v550 : IVec S16 32) (k0_hw95 : k0_chk95 v550), ∀ a x, ((![v550] : Fin 1 → IVec S16 32) a x).toNat < S256.size a := fun v550 k0_hw95 => k0_hw95

def k0_chk96 (v553 : IVec S16 32) : Prop :=
  (∀ a x, ((![v553] : Fin 1 → IVec S16 32) a x).toNat < S256.size a)
theorem k0_idx96_inb : ∀ (v553 : IVec S16 32) (k0_hw96 : k0_chk96 v553), ∀ a x, ((![v553] : Fin 1 → IVec S16 32) a x).toNat < S256.size a := fun v553 k0_hw96 => k0_hw96
def k0_off4 (i : grid0.Coords) : Fin 1 → Nat :=
  let c2_i32_3 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c384_i32 : BitVec 32 := 384#32
  let v15 : BitVec 32 := Scalar.addi v2 c384_i32
  let v16 : BitVec 32 := Scalar.muli c2_i32_3 v15
  ![v16.toNat]

def k0_chk97 (v568 : IVec S16 32) : Prop :=
  (∀ a x, ((![v568] : Fin 1 → IVec S16 32) a x).toNat < S256.size a)
theorem k0_idx97_inb : ∀ (v568 : IVec S16 32) (k0_hw97 : k0_chk97 v568), ∀ a x, ((![v568] : Fin 1 → IVec S16 32) a x).toNat < S256.size a := fun v568 k0_hw97 => k0_hw97

def k0_chk98 (v571 : IVec S16 32) : Prop :=
  (∀ a x, ((![v571] : Fin 1 → IVec S16 32) a x).toNat < S256.size a)
theorem k0_idx98_inb : ∀ (v571 : IVec S16 32) (k0_hw98 : k0_chk98 v571), ∀ a x, ((![v571] : Fin 1 → IVec S16 32) a x).toNat < S256.size a := fun v571 k0_hw98 => k0_hw98

def k0_chk99 (v575 : IVec S16 32) : Prop :=
  (∀ a x, ((![v575] : Fin 1 → IVec S16 32) a x).toNat < S256.size a)
theorem k0_idx99_inb : ∀ (v575 : IVec S16 32) (k0_hw99 : k0_chk99 v575), ∀ a x, ((![v575] : Fin 1 → IVec S16 32) a x).toNat < S256.size a := fun v575 k0_hw99 => k0_hw99

def k0_chk100 (v578 : IVec S16 32) : Prop :=
  (∀ a x, ((![v578] : Fin 1 → IVec S16 32) a x).toNat < S256.size a)
theorem k0_idx100_inb : ∀ (v578 : IVec S16 32) (k0_hw100 : k0_chk100 v578), ∀ a x, ((![v578] : Fin 1 → IVec S16 32) a x).toNat < S256.size a := fun v578 k0_hw100 => k0_hw100

def k0_chk101 (v590 : IVec S16 32) : Prop :=
  (∀ a x, ((![v590] : Fin 1 → IVec S16 32) a x).toNat < S256.size a)
theorem k0_idx101_inb : ∀ (v590 : IVec S16 32) (k0_hw101 : k0_chk101 v590), ∀ a x, ((![v590] : Fin 1 → IVec S16 32) a x).toNat < S256.size a := fun v590 k0_hw101 => k0_hw101

def k0_chk102 (v593 : IVec S16 32) : Prop :=
  (∀ a x, ((![v593] : Fin 1 → IVec S16 32) a x).toNat < S256.size a)
theorem k0_idx102_inb : ∀ (v593 : IVec S16 32) (k0_hw102 : k0_chk102 v593), ∀ a x, ((![v593] : Fin 1 → IVec S16 32) a x).toNat < S256.size a := fun v593 k0_hw102 => k0_hw102

def k0_chk103 (v597 : IVec S16 32) : Prop :=
  (∀ a x, ((![v597] : Fin 1 → IVec S16 32) a x).toNat < S256.size a)
theorem k0_idx103_inb : ∀ (v597 : IVec S16 32) (k0_hw103 : k0_chk103 v597), ∀ a x, ((![v597] : Fin 1 → IVec S16 32) a x).toNat < S256.size a := fun v597 k0_hw103 => k0_hw103

def k0_chk104 (v600 : IVec S16 32) : Prop :=
  (∀ a x, ((![v600] : Fin 1 → IVec S16 32) a x).toNat < S256.size a)
theorem k0_idx104_inb : ∀ (v600 : IVec S16 32) (k0_hw104 : k0_chk104 v600), ∀ a x, ((![v600] : Fin 1 → IVec S16 32) a x).toNat < S256.size a := fun v600 k0_hw104 => k0_hw104

def k0_chk105 (v612 : IVec S16 32) : Prop :=
  (∀ a x, ((![v612] : Fin 1 → IVec S16 32) a x).toNat < S256.size a)
theorem k0_idx105_inb : ∀ (v612 : IVec S16 32) (k0_hw105 : k0_chk105 v612), ∀ a x, ((![v612] : Fin 1 → IVec S16 32) a x).toNat < S256.size a := fun v612 k0_hw105 => k0_hw105

def k0_chk106 (v615 : IVec S16 32) : Prop :=
  (∀ a x, ((![v615] : Fin 1 → IVec S16 32) a x).toNat < S256.size a)
theorem k0_idx106_inb : ∀ (v615 : IVec S16 32) (k0_hw106 : k0_chk106 v615), ∀ a x, ((![v615] : Fin 1 → IVec S16 32) a x).toNat < S256.size a := fun v615 k0_hw106 => k0_hw106

def k0_chk107 (v619 : IVec S16 32) : Prop :=
  (∀ a x, ((![v619] : Fin 1 → IVec S16 32) a x).toNat < S256.size a)
theorem k0_idx107_inb : ∀ (v619 : IVec S16 32) (k0_hw107 : k0_chk107 v619), ∀ a x, ((![v619] : Fin 1 → IVec S16 32) a x).toNat < S256.size a := fun v619 k0_hw107 => k0_hw107

def k0_chk108 (v622 : IVec S16 32) : Prop :=
  (∀ a x, ((![v622] : Fin 1 → IVec S16 32) a x).toNat < S256.size a)
theorem k0_idx108_inb : ∀ (v622 : IVec S16 32) (k0_hw108 : k0_chk108 v622), ∀ a x, ((![v622] : Fin 1 → IVec S16 32) a x).toNat < S256.size a := fun v622 k0_hw108 => k0_hw108

def k0_chk109 (v634 : IVec S16 32) : Prop :=
  (∀ a x, ((![v634] : Fin 1 → IVec S16 32) a x).toNat < S256.size a)
theorem k0_idx109_inb : ∀ (v634 : IVec S16 32) (k0_hw109 : k0_chk109 v634), ∀ a x, ((![v634] : Fin 1 → IVec S16 32) a x).toNat < S256.size a := fun v634 k0_hw109 => k0_hw109

def k0_chk110 (v637 : IVec S16 32) : Prop :=
  (∀ a x, ((![v637] : Fin 1 → IVec S16 32) a x).toNat < S256.size a)
theorem k0_idx110_inb : ∀ (v637 : IVec S16 32) (k0_hw110 : k0_chk110 v637), ∀ a x, ((![v637] : Fin 1 → IVec S16 32) a x).toNat < S256.size a := fun v637 k0_hw110 => k0_hw110

def k0_chk111 (v641 : IVec S16 32) : Prop :=
  (∀ a x, ((![v641] : Fin 1 → IVec S16 32) a x).toNat < S256.size a)
theorem k0_idx111_inb : ∀ (v641 : IVec S16 32) (k0_hw111 : k0_chk111 v641), ∀ a x, ((![v641] : Fin 1 → IVec S16 32) a x).toNat < S256.size a := fun v641 k0_hw111 => k0_hw111

def k0_chk112 (v644 : IVec S16 32) : Prop :=
  (∀ a x, ((![v644] : Fin 1 → IVec S16 32) a x).toNat < S256.size a)
theorem k0_idx112_inb : ∀ (v644 : IVec S16 32) (k0_hw112 : k0_chk112 v644), ∀ a x, ((![v644] : Fin 1 → IVec S16 32) a x).toNat < S256.size a := fun v644 k0_hw112 => k0_hw112

def k0_chk113 (v656 : IVec S16 32) : Prop :=
  (∀ a x, ((![v656] : Fin 1 → IVec S16 32) a x).toNat < S256.size a)
theorem k0_idx113_inb : ∀ (v656 : IVec S16 32) (k0_hw113 : k0_chk113 v656), ∀ a x, ((![v656] : Fin 1 → IVec S16 32) a x).toNat < S256.size a := fun v656 k0_hw113 => k0_hw113

def k0_chk114 (v659 : IVec S16 32) : Prop :=
  (∀ a x, ((![v659] : Fin 1 → IVec S16 32) a x).toNat < S256.size a)
theorem k0_idx114_inb : ∀ (v659 : IVec S16 32) (k0_hw114 : k0_chk114 v659), ∀ a x, ((![v659] : Fin 1 → IVec S16 32) a x).toNat < S256.size a := fun v659 k0_hw114 => k0_hw114

def k0_chk115 (v663 : IVec S16 32) : Prop :=
  (∀ a x, ((![v663] : Fin 1 → IVec S16 32) a x).toNat < S256.size a)
theorem k0_idx115_inb : ∀ (v663 : IVec S16 32) (k0_hw115 : k0_chk115 v663), ∀ a x, ((![v663] : Fin 1 → IVec S16 32) a x).toNat < S256.size a := fun v663 k0_hw115 => k0_hw115

def k0_chk116 (v666 : IVec S16 32) : Prop :=
  (∀ a x, ((![v666] : Fin 1 → IVec S16 32) a x).toNat < S256.size a)
theorem k0_idx116_inb : ∀ (v666 : IVec S16 32) (k0_hw116 : k0_chk116 v666), ∀ a x, ((![v666] : Fin 1 → IVec S16 32) a x).toNat < S256.size a := fun v666 k0_hw116 => k0_hw116

def k0_chk117 (v678 : IVec S16 32) : Prop :=
  (∀ a x, ((![v678] : Fin 1 → IVec S16 32) a x).toNat < S256.size a)
theorem k0_idx117_inb : ∀ (v678 : IVec S16 32) (k0_hw117 : k0_chk117 v678), ∀ a x, ((![v678] : Fin 1 → IVec S16 32) a x).toNat < S256.size a := fun v678 k0_hw117 => k0_hw117

def k0_chk118 (v681 : IVec S16 32) : Prop :=
  (∀ a x, ((![v681] : Fin 1 → IVec S16 32) a x).toNat < S256.size a)
theorem k0_idx118_inb : ∀ (v681 : IVec S16 32) (k0_hw118 : k0_chk118 v681), ∀ a x, ((![v681] : Fin 1 → IVec S16 32) a x).toNat < S256.size a := fun v681 k0_hw118 => k0_hw118

def k0_chk119 (v685 : IVec S16 32) : Prop :=
  (∀ a x, ((![v685] : Fin 1 → IVec S16 32) a x).toNat < S256.size a)
theorem k0_idx119_inb : ∀ (v685 : IVec S16 32) (k0_hw119 : k0_chk119 v685), ∀ a x, ((![v685] : Fin 1 → IVec S16 32) a x).toNat < S256.size a := fun v685 k0_hw119 => k0_hw119

def k0_chk120 (v688 : IVec S16 32) : Prop :=
  (∀ a x, ((![v688] : Fin 1 → IVec S16 32) a x).toNat < S256.size a)
theorem k0_idx120_inb : ∀ (v688 : IVec S16 32) (k0_hw120 : k0_chk120 v688), ∀ a x, ((![v688] : Fin 1 → IVec S16 32) a x).toNat < S256.size a := fun v688 k0_hw120 => k0_hw120

def k0_chk121 (v700 : IVec S16 32) : Prop :=
  (∀ a x, ((![v700] : Fin 1 → IVec S16 32) a x).toNat < S256.size a)
theorem k0_idx121_inb : ∀ (v700 : IVec S16 32) (k0_hw121 : k0_chk121 v700), ∀ a x, ((![v700] : Fin 1 → IVec S16 32) a x).toNat < S256.size a := fun v700 k0_hw121 => k0_hw121

def k0_chk122 (v703 : IVec S16 32) : Prop :=
  (∀ a x, ((![v703] : Fin 1 → IVec S16 32) a x).toNat < S256.size a)
theorem k0_idx122_inb : ∀ (v703 : IVec S16 32) (k0_hw122 : k0_chk122 v703), ∀ a x, ((![v703] : Fin 1 → IVec S16 32) a x).toNat < S256.size a := fun v703 k0_hw122 => k0_hw122

def k0_chk123 (v707 : IVec S16 32) : Prop :=
  (∀ a x, ((![v707] : Fin 1 → IVec S16 32) a x).toNat < S256.size a)
theorem k0_idx123_inb : ∀ (v707 : IVec S16 32) (k0_hw123 : k0_chk123 v707), ∀ a x, ((![v707] : Fin 1 → IVec S16 32) a x).toNat < S256.size a := fun v707 k0_hw123 => k0_hw123

def k0_chk124 (v710 : IVec S16 32) : Prop :=
  (∀ a x, ((![v710] : Fin 1 → IVec S16 32) a x).toNat < S256.size a)
theorem k0_idx124_inb : ∀ (v710 : IVec S16 32) (k0_hw124 : k0_chk124 v710), ∀ a x, ((![v710] : Fin 1 → IVec S16 32) a x).toNat < S256.size a := fun v710 k0_hw124 => k0_hw124

def k0_chk125 (v722 : IVec S16 32) : Prop :=
  (∀ a x, ((![v722] : Fin 1 → IVec S16 32) a x).toNat < S256.size a)
theorem k0_idx125_inb : ∀ (v722 : IVec S16 32) (k0_hw125 : k0_chk125 v722), ∀ a x, ((![v722] : Fin 1 → IVec S16 32) a x).toNat < S256.size a := fun v722 k0_hw125 => k0_hw125

def k0_chk126 (v725 : IVec S16 32) : Prop :=
  (∀ a x, ((![v725] : Fin 1 → IVec S16 32) a x).toNat < S256.size a)
theorem k0_idx126_inb : ∀ (v725 : IVec S16 32) (k0_hw126 : k0_chk126 v725), ∀ a x, ((![v725] : Fin 1 → IVec S16 32) a x).toNat < S256.size a := fun v725 k0_hw126 => k0_hw126

def k0_chk127 (v729 : IVec S16 32) : Prop :=
  (∀ a x, ((![v729] : Fin 1 → IVec S16 32) a x).toNat < S256.size a)
theorem k0_idx127_inb : ∀ (v729 : IVec S16 32) (k0_hw127 : k0_chk127 v729), ∀ a x, ((![v729] : Fin 1 → IVec S16 32) a x).toNat < S256.size a := fun v729 k0_hw127 => k0_hw127

def k0_chk128 (v732 : IVec S16 32) : Prop :=
  (∀ a x, ((![v732] : Fin 1 → IVec S16 32) a x).toNat < S256.size a)
theorem k0_idx128_inb : ∀ (v732 : IVec S16 32) (k0_hw128 : k0_chk128 v732), ∀ a x, ((![v732] : Fin 1 → IVec S16 32) a x).toNat < S256.size a := fun v732 k0_hw128 => k0_hw128
def k0_off5 (i : grid0.Coords) (c0_i32_228 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v819 : BitVec 32 := Scalar.addi v2 c0_i32_228
  ![v819.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2 : Shape := ⟨2, ![16384, 2]⟩
abbrev S1000000x1 : Shape := ⟨2, ![1000000, 1]⟩
abbrev S1 : Shape := ⟨1, ![1]⟩
abbrev S2 : Shape := ⟨1, ![2]⟩
abbrev S1x2 : Shape := ⟨2, ![1, 2]⟩
abbrev S_ : Shape := ⟨0, ![]⟩
abbrev S16384x2x1 : Shape := ⟨3, ![16384, 2, 1]⟩
abbrev S1x1x1 : Shape := ⟨3, ![1, 1, 1]⟩
abbrev S16384x1 : Shape := ⟨2, ![16384, 1]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S1000000x1, .f32⟩
  | .hbm, ⟨2, _⟩ => ⟨S1, .f32⟩
  | .hbm, ⟨3, _⟩ => ⟨S2, .i32⟩
  | .hbm, ⟨4, _⟩ => ⟨S1x2, .i32⟩
  | .hbm, ⟨5, _⟩ => ⟨S16384x2, .i32⟩
  | .hbm, ⟨6, _⟩ => ⟨S16384x2, .i32⟩
  | .hbm, ⟨7, _⟩ => ⟨S_, .i32⟩
  | .hbm, ⟨8, _⟩ => ⟨S16384x2, .i32⟩
  | .hbm, ⟨9, _⟩ => ⟨S16384x2, .i1⟩
  | .hbm, ⟨10, _⟩ => ⟨S_, .i32⟩
  | .hbm, ⟨11, _⟩ => ⟨S16384x2, .i32⟩
  | .hbm, ⟨12, _⟩ => ⟨S16384x2, .i32⟩
  | .hbm, ⟨13, _⟩ => ⟨S16384x2, .i32⟩
  | .hbm, ⟨14, _⟩ => ⟨S16384x2x1, .i32⟩
  | .hbm, ⟨15, _⟩ => ⟨S1, .i32⟩
  | .hbm, ⟨16, _⟩ => ⟨S_, .i32⟩
  | .hbm, ⟨17, _⟩ => ⟨S16384x2x1, .i32⟩
  | .hbm, ⟨18, _⟩ => ⟨S16384x2x1, .i1⟩
  | .hbm, ⟨19, _⟩ => ⟨S1x1x1, .i32⟩
  | .hbm, ⟨20, _⟩ => ⟨S16384x2x1, .i32⟩
  | .hbm, ⟨21, _⟩ => ⟨S16384x2x1, .i1⟩
  | .hbm, ⟨22, _⟩ => ⟨S16384x2x1, .i1⟩
  | .hbm, ⟨23, _⟩ => ⟨S_, .i1⟩
  | .hbm, ⟨24, _⟩ => ⟨S16384x2, .i1⟩
  | .hbm, ⟨25, _⟩ => ⟨S16384x2x1, .f32⟩
  | .hbm, ⟨26, _⟩ => ⟨S16384x2x1, .i1⟩
  | .hbm, ⟨27, _⟩ => ⟨S_, .f32⟩
  | .hbm, ⟨28, _⟩ => ⟨S16384x2x1, .f32⟩
  | .hbm, ⟨29, _⟩ => ⟨S16384x2x1, .f32⟩
  | .hbm, ⟨30, _⟩ => ⟨S_, .f32⟩
  | .hbm, ⟨31, _⟩ => ⟨S16384x1, .f32⟩
  | .hbm, ⟨32, _⟩ => ⟨S1x1, .f32⟩
  | .hbm, ⟨33, _⟩ => ⟨S16384x1, .f32⟩
  | .hbm, ⟨34, _⟩ => ⟨S16384x1, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]
-- ==== Proof.Body.lean ====
/-
  The tile's body, written with a name for each of the three things it repeats: one vector of a chunk's
  indices made (`deint`), a chunk's indices made (`indices`), a chunk's answers made (`answers`). The printed body
  is this one by definitional unfolding (`body_eq`), so the proof runs the structured text.
-/
module

public import proofs.«01_k».proof.Defs
public import proofs.«01_k».proof.Proof.Gen.KernelIdeal
public import proofs.«01_k».proof.Proof.Gen.KernelIdeal.Skeleton

@[expose] public section

noncomputable section

namespace Cert.Proof.K

open Cert.KernelIdeal Facts₀ Facts
open Idealize.ShloMosaic Idealize.SL.Sem

variable {F : FTy → Type} [FloatOps F]

/-- Programs of the tile at grid point `i`. -/
abbrev TProg (F : FTy → Type) (i : grid0.Coords) (α : Type) : Type 1 :=
  Prog (TpuEff nD τ sig (Elt F) Λ₀ (.scVector ((i 0).castLE hcore0) ((i 1).castLE hsub0))) α

/-- Every lane of `v` names an element of a 256-element buffer. -/
def InB (v : IVec S16 32) : Prop := ∀ a x, ((![v] : Fin 1 → IVec S16 32) a x).toNat < S256.size a

set_option synthInstance.maxSize 1000000 in set_option synthInstance.maxHeartbeats 0 in
instance InB.dec (v : IVec S16 32) : Decidable (InB v) := decidable_of_iff' _ (Iff.of_eq (InB.eq_1 v))

/-- One checked indexed read of a chunk's buffer `x` at the lanes `v`. -/
def readAt (i : grid0.Coords) (x : Memref sig .scVector .vmem S256 .i32) (v : IVec S16 32) : TProg F i (Vec F S16 .i32) :=
  .op (.assume (InB v) (InB.dec v)) fun h => SparseCore.vectorLoadIdx x ![v] h.down (View.loads_vmem h_S256)

/-- The lanes `w + u`, for a base word `w` and the lane pattern `u`. -/
abbrev lanes (w : Nat) (u : IVec S16 32) : IVec S16 32 := addi (broadcast S16 (BitVec.ofNat 32 w)) u

theorem inb_lo (v : Nat) (hv : v < 8) : ∀ a, (![16 * v] : Fin 1 → Nat) a + S16.size a ≤ S256.size a := by
  intro a; fin_cases a; simp [S16, S256]; omega
theorem inb_hi (v : Nat) (hv : v < 8) : ∀ a, (![128 + 16 * v] : Fin 1 → Nat) a + S16.size a ≤ S256.size a := by
  intro a; fin_cases a; simp [S16, S256]; omega
theorem inb_y (v : Nat) (hv : v < 8) : ∀ a, (![16 * v] : Fin 1 → Nat) a + S16.size a ≤ S128.size a := by
  intro a; fin_cases a; simp [S16, S128]; omega

/-- The words stored into the first half of the index list: lanes from the two reads `a`, `b`. -/
abbrev userWords (a b : IVec S16 32) : IVec S16 32 := shapeCast S16 (select Gen.k0_pay3 a b) shapeCasts_S16_S16
/-- The words stored into its second half: the same with the second table's offset added. -/
abbrev movieWords (a b : IVec S16 32) : IVec S16 32 :=
  shapeCast S16 (addi (select Gen.k0_pay3 a b) (broadcast S16 500000#32)) shapeCasts_S16_S16

/-- Vector `v` of a chunk: sixteen user indices and sixteen movie indices, from 32 words of `x` into two rows of `ic`. -/
def deint (i : grid0.Coords) (x ic : Memref sig .scVector .vmem S256 .i32) (v : Nat) (hv : v < 8) : TProg F i PUnit := do
  let a ← readAt (F := F) i x (lanes (32 * v) Gen.k0_pay1)
  let b ← readAt (F := F) i x (lanes (32 * v + 16) Gen.k0_pay1)
  let c ← readAt (F := F) i x (lanes (32 * v) Gen.k0_pay2)
  let d ← readAt (F := F) i x (lanes (32 * v + 16) Gen.k0_pay2)
  let _ ← Prog.lift (.load ic (Rect.unit (s := S256) ![16 * v] S16.size (inb_lo v hv)).toLoadRect (View.loadsAt_vmem h_S16))
  Prog.lift (.store ic (Rect.unit (s := S256) ![16 * v] S16.size (inb_lo v hv)) (userWords a b) Finset.univ (View.stores_vmem_bits_univ h_S16 rfl) (.inl rfl))
  let _ ← Prog.lift (.load ic (Rect.unit (s := S256) ![128 + 16 * v] S16.size (inb_hi v hv)).toLoadRect (View.loadsAt_vmem h_S16))
  Prog.lift (.store ic (Rect.unit (s := S256) ![128 + 16 * v] S16.size (inb_hi v hv)) (movieWords c d) Finset.univ (View.stores_vmem_bits_univ h_S16 rfl) (.inl rfl))

/-- A chunk's index list, its eight vectors in order. -/
def indices (i : grid0.Coords) (x ic : Memref sig .scVector .vmem S256 .i32) : TProg F i PUnit := do
  deint i x ic 0 (by decide)
  deint i x ic 1 (by decide)
  deint i x ic 2 (by decide)
  deint i x ic 3 (by decide)
  deint i x ic 4 (by decide)
  deint i x ic 5 (by decide)
  deint i x ic 6 (by decide)
  deint i x ic 7 (by decide)

/-- The sixteen answers of one vector: the two embeddings' sum, the bias added. -/
abbrev answerWords (bias u w : Vec F S16 .f32) : FVec F S16 .f32 :=
  shapeCast S16 (addf (addf (shapeCast S16 u shapeCasts_S16_S16) (shapeCast S16 w shapeCasts_S16_S16)) (shapeCast S16 bias shapeCasts_S16_S16)) shapeCasts_S16_S16

/-- Vector `v` of a chunk's answers. -/
def answer (i : grid0.Coords) (r : Memref sig .scVector .vmem S256 .f32) (y : Memref sig .scVector .vmem S128 .f32) (bias : Vec F S16 .f32)
    (v : Nat) (hv : v < 8) : TProg F i PUnit := do
  let u ← Prog.lift (.load r (Rect.unit (s := S256) ![16 * v] S16.size (inb_lo v hv)).toLoadRect (View.loadsAt_vmem h_S16))
  let w ← Prog.lift (.load r (Rect.unit (s := S256) ![128 + 16 * v] S16.size (inb_hi v hv)).toLoadRect (View.loadsAt_vmem h_S16))
  let _ ← Prog.lift (.load y (Rect.unit (s := S128) ![16 * v] S16.size (inb_y v hv)).toLoadRect (View.loadsAt_vmem h_S16))
  Prog.lift (.store y (Rect.unit (s := S128) ![16 * v] S16.size (inb_y v hv)) (answerWords bias u w) Finset.univ (View.stores_vmem_bits_univ h_S16 rfl) (.inl rfl))

/-- A chunk's answers, its eight vectors in order. -/
def answers (i : grid0.Coords) (r : Memref sig .scVector .vmem S256 .f32) (y : Memref sig .scVector .vmem S128 .f32) (bias : Vec F S16 .f32) :
    TProg F i PUnit := do
  answer i r y bias 0 (by decide)
  answer i r y bias 1 (by decide)
  answer i r y bias 2 (by decide)
  answer i r y bias 3 (by decide)
  answer i r y bias 4 (by decide)
  answer i r y bias 5 (by decide)
  answer i r y bias 6 (by decide)
  answer i r y bias 7 (by decide)

/-- Chunk `r`'s words of the flat argument, as the copy in names them. -/
abbrev xAt (i : grid0.Coords) (a : Memref sig .scVector .hbm S32768 .i32) (r : Fin 4) : Memref sig .scVector .hbm S256 .i32 :=
  a.slice (Rect.unit (s := S32768) (k0_off1 i (BitVec.ofNat 32 (128 * r.val))) S256.size (k0_off1_inb i r)) (fun _ => rfl)
/-- Chunk `r`'s elements of the result, as the copy out names them. -/
abbrev oAt (i : grid0.Coords) (a : Memref sig .scVector .hbm S16384 .f32) (r : Fin 4) : Memref sig .scVector .hbm S128 .f32 :=
  a.slice (Rect.unit (s := S16384) (k0_off5 i (BitVec.ofNat 32 (128 * r.val))) S128.size (k0_off5_inb i r)) (fun _ => rfl)
/-- The whole table, as an indexed copy names it. -/
abbrev tAt (a : Memref sig .scVector .hbm S1000000 .f32) : Memref sig .scVector .hbm S1000000 .f32 :=
  a.slice (Rect.unit (s := S1000000) ![0] S1000000.size inb_S1000000_S1000000_0) (fun _ => rfl)

/-- Start the copy of chunk `r`'s words into `x`. -/
abbrev startX (i : grid0.Coords) (a : Memref sig .scVector .hbm S32768 .i32) (r : Fin 4) (x : Memref sig .scVector .vmem S256 .i32) (hx : x.IsWhole)
    (sem : DmaSem sig) : TProg F i PUnit :=
  Prog.lift (.enqueueDma (xAt i a r) (.here x) (.dma sem) (View.wordExact_bits rfl) hx.wordExact ⟨Or.inl rfl, trivial⟩)
/-- Wait for it, make the chunk's index list, and start the indexed copy of the table along it. -/
abbrev fetch (i : grid0.Coords) (a : Memref sig .scVector .hbm S32768 .i32) (t : Memref sig .scVector .hbm S1000000 .f32) (r : Fin 4)
    (x : Memref sig .scVector .vmem S256 .i32) (hx : x.IsWhole) (ic : Memref sig .scVector .vmem S256 .i32)
    (rv : Memref sig .scVector .vmem S256 .f32) (sem gsem : DmaSem sig) : TProg F i PUnit := do
  Prog.lift (.waitDma2 sem (xAt i a r) x (View.wordExact_bits rfl) hx.wordExact)
  indices i x ic
  SparseCore.enqueueIndirectGather rfl (tAt t) rv gathers_S1000000_S256 ic rfl gsem (View.wordExact_bits rfl) rfl (Or.inl rfl)
/-- Wait for the indexed copy, make the chunk's answers, and start their copy out. -/
abbrev finish (i : grid0.Coords) (t : Memref sig .scVector .hbm S1000000 .f32) (o : Memref sig .scVector .hbm S16384 .f32) (r : Fin 4)
    (rv : Memref sig .scVector .vmem S256 .f32) (hrv : rv.IsWhole) (y : Memref sig .scVector .vmem S128 .f32) (hy : y.IsWhole)
    (bias : Vec F S16 .f32) (gsem osem : DmaSem sig) : TProg F i PUnit := do
  SparseCore.waitIndirectGather gsem (tAt t) rv (View.wordExact_bits rfl) hrv.wordExact
  answers i rv y bias
  Prog.lift (.enqueueDma y (.here (oAt i o r)) (.dma osem) hy.wordExact (View.wordExact_bits rfl) ⟨Or.inl rfl, trivial⟩)
/-- Wait for chunk `r`'s copy out. -/
abbrev drain (i : grid0.Coords) (o : Memref sig .scVector .hbm S16384 .f32) (r : Fin 4) (y : Memref sig .scVector .vmem S128 .f32) (hy : y.IsWhole)
    (osem : DmaSem sig) : TProg F i PUnit :=
  Prog.lift (.waitDma2 osem y (oAt i o r) hy.wordExact (View.wordExact_bits rfl))

/-- The tile's body: all four chunks' copies in and the bias's started; each chunk fetched; then each chunk finished;
    then the four copies out awaited. -/
def body (i : grid0.Coords) (arg2 : Memref sig .scVector .hbm S32768 .i32) (harg2 : arg2.IsWhole) (arg3 : Memref sig .scVector .hbm S1000000 .f32) (harg3 : arg3.IsWhole) (arg4 : Memref sig .scVector .hbm S16 .f32) (harg4 : arg4.IsWhole) (arg5 : Memref sig .scVector .hbm S16384 .f32) (harg5 : arg5.IsWhole) (arg6 : Memref sig .scVector .vmem S256 .i32) (harg6 : arg6.IsWhole) (arg7 : Memref sig .scVector .vmem S256 .i32) (harg7 : arg7.IsWhole) (arg8 : Memref sig .scVector .vmem S256 .f32) (harg8 : arg8.IsWhole) (arg9 : Memref sig .scVector .vmem S128 .f32) (harg9 : arg9.IsWhole) (arg10 : Memref sig .scVector .vmem S256 .i32) (harg10 : arg10.IsWhole) (arg11 : Memref sig .scVector .vmem S256 .i32) (harg11 : arg11.IsWhole) (arg12 : Memref sig .scVector .vmem S256 .f32) (harg12 : arg12.IsWhole) (arg13 : Memref sig .scVector .vmem S128 .f32) (harg13 : arg13.IsWhole) (arg14 : Memref sig .scVector .vmem S256 .i32) (harg14 : arg14.IsWhole) (arg15 : Memref sig .scVector .vmem S256 .i32) (harg15 : arg15.IsWhole) (arg16 : Memref sig .scVector .vmem S256 .f32) (harg16 : arg16.IsWhole) (arg17 : Memref sig .scVector .vmem S128 .f32) (harg17 : arg17.IsWhole) (arg18 : Memref sig .scVector .vmem S256 .i32) (harg18 : arg18.IsWhole) (arg19 : Memref sig .scVector .vmem S256 .i32) (harg19 : arg19.IsWhole) (arg20 : Memref sig .scVector .vmem S256 .f32) (harg20 : arg20.IsWhole) (arg21 : Memref sig .scVector .vmem S128 .f32) (harg21 : arg21.IsWhole) (arg22 : Memref sig .scVector .vmem S16 .f32) (harg22 : arg22.IsWhole) (arg23 : DmaSems sig S_) (arg24 : DmaSems sig S_) (arg25 : DmaSems sig S_) (arg26 : DmaSems sig S_) (arg27 : DmaSems sig S_) (arg28 : DmaSems sig S_) (arg29 : DmaSems sig S_) (arg30 : DmaSems sig S_) (arg31 : DmaSems sig S_) (arg32 : DmaSems sig S_) :
    TProg F i PUnit := do
  startX i arg2 0 arg6 harg6 arg23.sem
  startX i arg2 1 arg10 harg10 arg24.sem
  startX i arg2 2 arg14 harg14 arg25.sem
  startX i arg2 3 arg18 harg18 arg26.sem
  Prog.lift (.enqueueDma arg4 (.here arg22) (.dma arg32.sem) harg4.wordExact harg22.wordExact ⟨Or.inl rfl, trivial⟩)
  fetch i arg2 arg3 0 arg6 harg6 arg7 arg8 arg23.sem arg28.sem
  fetch i arg2 arg3 1 arg10 harg10 arg11 arg12 arg24.sem arg29.sem
  fetch i arg2 arg3 2 arg14 harg14 arg15 arg16 arg25.sem arg30.sem
  fetch i arg2 arg3 3 arg18 harg18 arg19 arg20 arg26.sem arg31.sem
  Prog.lift (.waitDma2 arg32.sem arg4 arg22 harg4.wordExact harg22.wordExact)
  let bias ← Prog.lift (.load arg22 (Rect.unit (s := S16) ![0] S16.size inb_S16_S16_0).toLoadRect (View.loadsAt_vmem h_S16))
  finish i arg3 arg5 0 arg8 harg8 arg9 harg9 bias arg28.sem arg27.sem
  finish i arg3 arg5 1 arg12 harg12 arg13 harg13 bias arg29.sem arg27.sem
  finish i arg3 arg5 2 arg16 harg16 arg17 harg17 bias arg30.sem arg27.sem
  finish i arg3 arg5 3 arg20 harg20 arg21 harg21 bias arg31.sem arg27.sem
  drain i arg5 0 arg9 harg9 arg27.sem
  drain i arg5 1 arg13 harg13 arg27.sem
  drain i arg5 2 arg17 harg17 arg27.sem
  drain i arg5 3 arg21 harg21 arg27.sem

end Cert.Proof.K
end
-- ==== Proof.Vectors.lean ====
/-
  A chunk's two vector computations, run by values: the index list made from the chunk's words (`wp_indices`), and the
  answers made from the rows fetched (`wp_answers`). A buffer held "at `X`" is held, by its own elements, at contents
  that read `X`.
-/
module

public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.VecWindow
public import Idealize.ShloMosaic.Lib.Pipeline.Value

@[expose] public section

noncomputable section

namespace Cert.Proof.K

open Cert.KernelIdeal Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

/-- The proof's ghost state: the handshakes' rounds and the transfers' counters. -/
abbrev UU : Type := URounds (GSem nD τ sig) ℕ × Counters

local notation "𝕄" => MT nD τ sig (HIx 1) (Elt F) ℕ UU ℕ

abbrev 𝒱₀ : Variants := Variants.none

/-- The SparseCore and the subcore of the tile at a grid point, and its thread on device `d`. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-- The tile's weakest precondition. -/
abbrev TWp (d : Dev nD) (i : grid0.Coords) (p : TProg F i PUnit) (Q : PUnit → sProp 𝕄) : sProp 𝕄 :=
  wp frame (wpE (defs₀ (F := F)) 𝒱₀ (thr d i) none) Set.univ p Q

/-- The memref `m`, as the tile addresses it, held at share `q` and at the values `X`. -/
abbrev At (d : Dev nD) (i : grid0.Coords) {sp : Space} {s : Shape} {e : EltTy} (m : Memref sig .scVector sp s e) (q : PosShare TreeShare)
    (X : s.Idx → Elt F e) : sProp 𝕄 :=
  (m.view.loc (thr d i) : Loc nD τ sig) ↦[m.view.set]{q} m.view.rep X

/-! ## Indices of one axis -/

/-- Element `n` of a 256-element buffer, of a 128-element one, of a vector. -/
abbrev at256 (n : ℕ) (h : n < 256) : S256.Idx := fun a => match a with | 0 => ⟨n, h⟩

abbrev lane (n : ℕ) (h : n < 16) : S16.Idx := fun a => match a with | 0 => ⟨n, h⟩

theorem eq_at256 (j : S256.Idx) : j = at256 (j 0).val (j 0).isLt := by
  funext a; match a with | 0 => rfl

/-- The index list made from a chunk's words: for each of the 128 pairs its first word, then for each its second moved
    past the first table. -/
def list (X : S256.Idx → BitVec 32) : S256.Idx → BitVec 32 := fun j =>
  if h : (j 0).val < 128 then X (at256 (2 * (j 0).val) (by omega))
  else X (at256 (2 * ((j 0).val - 128) + 1) (by have := (j 0).isLt; simp only [S256] at this; change (j 0).val < 256 at this; omega)) + 500000#32

/-- The answers made from the fetched rows. -/
def sums (R : S256.Idx → Elt F .f32) (bias : S16.Idx → Elt F .f32) : S128.Idx → Elt F .f32 := fun j =>
  FloatOps.addf (FloatOps.addf (R (at256 (j 0).val (by have := (j 0).isLt; change (j 0).val < 128 at this; omega)))
    (R (at256 (128 + (j 0).val) (by have := (j 0).isLt; change (j 0).val < 128 at this; omega))))
    (bias (lane ((j 0).val % 16) (Nat.mod_lt _ (by decide))))

/-! ## The lanes read -/

theorem evens_toNat : ∀ l : S16.Idx, (Gen.k0_pay1 l).toNat = 2 * (l 0).val % 16 := by
  intro l; rw [show l = fun a => match a with | 0 => l 0 from by funext a; match a with | 0 => rfl]
  generalize l 0 = n; revert n; decide
theorem odds_toNat : ∀ l : S16.Idx, (Gen.k0_pay2 l).toNat = 2 * (l 0).val % 16 + 1 := by
  intro l; rw [show l = fun a => match a with | 0 => l 0 from by funext a; match a with | 0 => rfl]
  generalize l 0 = n; revert n; decide
theorem mask_eq : ∀ l : S16.Idx, Gen.k0_pay3 l = if (l 0).val < 8 then 1#1 else 0#1 := by
  intro l; rw [show l = fun a => match a with | 0 => l 0 from by funext a; match a with | 0 => rfl]
  generalize l 0 = n; revert n; decide

theorem lanes_toNat (w : ℕ) (u : IVec S16 32) (l : S16.Idx) (hw : w + 16 ≤ 256) (hu : (u l).toNat < 16) :
    (lanes w u l).toNat = w + (u l).toNat := by
  show (BitVec.ofNat 32 w + u l).toNat = _
  rw [BitVec.toNat_add, BitVec.toNat_ofNat]; omega

theorem inB_lanes (w : ℕ) (u : IVec S16 32) (hw : w + 16 ≤ 256) (hu : ∀ l, (u l).toNat < 16) : InB (lanes w u) := by
  intro a l; match a with
  | 0 => show (lanes w u l).toNat < 256; rw [lanes_toNat w u l hw (hu l)]; have := hu l; omega

theorem evens_lt (l : S16.Idx) : (Gen.k0_pay1 l).toNat < 16 := by rw [evens_toNat]; omega
theorem odds_lt (l : S16.Idx) : (Gen.k0_pay2 l).toNat < 16 := by rw [odds_toNat]; omega

/-! ## One indexed read -/

theorem InB.get {v : IVec S16 32} (h : InB v) : ∀ a x, ((![v] : Fin 1 → IVec S16 32) a x).toNat < S256.size a := h

/-- The words that the lanes `v` name. -/
abbrev pick (X : S256.Idx → Elt F .i32) (v : IVec S16 32) (hv : InB v) : Vec F S16 .i32 := loadIdx X ![v] hv.get

theorem pick_lanes (X : S256.Idx → BitVec 32) (w : ℕ) (u : IVec S16 32) (l : S16.Idx) (hw : w + 16 ≤ 256) (hu : ∀ l, (u l).toNat < 16) (h : InB (lanes w u)) :
    pick (F := F) X (lanes w u) h l = X (at256 (w + (u l).toNat) (by have := hu l; omega)) := by
  show X _ = X _
  congr 1; funext a; match a with
  | 0 => exact Fin.ext (lanes_toNat w u l hw (hu l))

theorem wp_readAt (d : Dev nD) (i : grid0.Coords) (x : Memref sig .scVector .vmem S256 .i32) (q : PosShare TreeShare) (X : S256.Idx → Elt F .i32)
    (v : IVec S16 32) (hv : InB v) (k : Vec F S16 .i32 → TProg F i PUnit) (Q : PUnit → sProp 𝕄) :
    At d i x q X ⊢ iprop((At d i x q X -∗ TWp d i (k (pick X v hv)) Q) -∗ TWp d i (readAt i x v >>= k) Q) := by
  show _ ⊢ iprop(_ -∗ wp frame (wpE (defs₀ (F := F)) 𝒱₀ (thr d i) none) Set.univ
    (.op (.assume (InB v) (InB.dec v)) fun h => SparseCore.vectorLoadIdx x ![v] h.down (View.loads_vmem h_S256) >>= k) Q)
  rw [wp_assume_of _ _ _ _ hv]
  have h := wp_load (defs := defs₀ (F := F)) (Γ := .empty) 𝒱₀ (thr d i) none Set.univ (Q := Q) (m := x) (r := LoadRect.whole S256) (hl := View.loadsAt_whole (View.loads_vmem h_S256))
    (k := fun f => k (loadIdx f ![v] hv.get)) (S := x.view.set) (q := q) (f := x.view.rep X) (Finset.map_subset_map.mpr (Finset.subset_univ _))
  rw [show x.view.readAt (Elt F) (LoadRect.whole S256) (x.view.rep X) = X from View.readAt_rep_full x.view X (off := fun _ => 0) (fun a => by omega)] at h
  exact h

/-! ## Loads and stores -/

theorem wp_storeAt (d : Dev nD) (i : grid0.Coords) {e : EltTy} {s : Shape} (m : Memref sig .scVector .vmem s e) (X : s.Idx → Elt F e) (off size : Fin s.rank → ℕ)
    (inb : ∀ a, off a + size a ≤ s.size a) (w : (Rect.unit off size inb).shape.Idx → Elt F e)
    {hx : (m.access (Rect.unit off size inb)).Stores Finset.univ} {hm} (k : PUnit → TProg F i PUnit) (Q : PUnit → sProp 𝕄) :
    At d i m fullShare X ⊢ iprop((At d i m fullShare (VecWindow.put X off size w) -∗ TWp d i (k ⟨⟩) Q)
      -∗ TWp d i (Prog.lift (.store m (Rect.unit off size inb) w Finset.univ hx hm) >>= k) Q) := by
  refine (wp_store (defs := defs₀ (F := F)) 𝒱₀ (thr d i) none Set.univ (Q := Q) (m := m) (r := Rect.unit off size inb) (w := w) (hx := hx) (hm := hm) (k := k)
    (S := m.view.set) (f := m.view.rep X) (View.set_slice_subset _ _)).trans (wand_mono_left (wand_mono_left ?_))
  exact pointsTo_rep_of_read (thr d i) m _ fullShare _ (View.read_writes_rep_unit m.view X inb w rfl)

theorem wp_loadAt (d : Dev nD) (i : grid0.Coords) {e : EltTy} {s : Shape} (m : Memref sig .scVector .vmem s e) (q : PosShare TreeShare) (X : s.Idx → Elt F e)
    (off size : Fin s.rank → ℕ) (inb : ∀ a, off a + size a ≤ s.size a) {hl : m.view.LoadsAt (Rect.unit off size inb).toLoadRect}
    (k : ((Rect.unit off size inb).shape.Idx → Elt F e) → TProg F i PUnit) (Q : PUnit → sProp 𝕄) :
    At d i m q X ⊢ iprop((At d i m q X -∗ TWp d i (k (VecWindow.window X off size inb)) Q)
      -∗ TWp d i (Prog.lift (.load m (Rect.unit off size inb).toLoadRect hl) >>= k) Q) := by
  have h := wp_load (defs := defs₀ (F := F)) (Γ := .empty) 𝒱₀ (thr d i) none Set.univ (Q := Q) (m := m) (r := (Rect.unit off size inb).toLoadRect) (hl := hl) (k := k)
    (S := m.view.set) (q := q) (f := m.view.rep X) (Finset.map_subset_map.mpr (Finset.subset_univ _))
  rw [View.readAt_rep_unit m.view X inb rfl inb] at h
  exact h

/-! ## One vector of the list -/

/-- Vectors `0 … v-1` of the list are made. -/
def Listed (X : S256.Idx → BitVec 32) (v : ℕ) (g : S256.Idx → BitVec 32) : Prop :=
  ∀ j : S256.Idx, ((j 0).val < 16 * v ∨ (128 ≤ (j 0).val ∧ (j 0).val < 128 + 16 * v)) → g j = list X j

theorem Listed.all {X g : S256.Idx → BitVec 32} (h : Listed X 8 g) : g = list X := by
  funext j; apply h; have := (j 0).isLt; change (j 0).val < 256 at this; omega

theorem put_apply_in {α : Type} {n : ℕ} (x : (⟨1, ![n]⟩ : Shape).Idx → α) (off : ℕ) (w : S16.Idx → α) (j : (⟨1, ![n]⟩ : Shape).Idx)
    (h : off ≤ (j 0).val ∧ (j 0).val < off + 16) :
    VecWindow.put x ![off] S16.size w j = w (lane ((j 0).val - off) (by omega)) := by
  unfold VecWindow.put
  rw [dif_pos (show ∀ a, (![off] : Fin 1 → ℕ) a ≤ (j a).val ∧ (j a).val < (![off] : Fin 1 → ℕ) a + S16.size a from fun a => by match a with | 0 => exact h)]
  refine congrArg w (funext fun a => ?_)
  match a with | 0 => rfl

theorem put_apply_out {α : Type} {n : ℕ} (x : (⟨1, ![n]⟩ : Shape).Idx → α) (off : ℕ) (w : S16.Idx → α) (j : (⟨1, ![n]⟩ : Shape).Idx)
    (h : ¬(off ≤ (j 0).val ∧ (j 0).val < off + 16)) :
    VecWindow.put x ![off] S16.size w j = x j := by
  unfold VecWindow.put
  rw [dif_neg (fun hh => h (hh 0))]

/-- Lane `l` of the two reads joined, for a lane pattern that starts over at lane 8. -/
theorem joined_apply (X : S256.Idx → BitVec 32) (v : ℕ) (hv : v < 8) (u : IVec S16 32) (b : ℕ) (hu : ∀ l : S16.Idx, (u l).toNat = 2 * (l 0).val % 16 + b) (hb : b < 2)
    (h1 : InB (lanes (32 * v) u)) (h2 : InB (lanes (32 * v + 16) u)) (n : ℕ) (hn : n < 16) :
    select Gen.k0_pay3 (pick (F := F) X _ h1) (pick (F := F) X _ h2) (lane n hn) = X (at256 (2 * (16 * v + n) + b) (by omega)) := by
  have hlt : ∀ l : S16.Idx, (u l).toNat < 16 := fun l => by rw [hu]; omega
  show Scalar.select (Gen.k0_pay3 (lane n hn)) _ _ = _
  have hb' : (u (lane n hn)).toNat = 2 * n % 16 + b := hu (lane n hn)
  rw [pick_lanes X _ _ _ (by omega) hlt, pick_lanes X _ _ _ (by omega) hlt, mask_eq]
  show Scalar.select (if n < 8 then 1#1 else 0#1) _ _ = _
  by_cases h8 : n < 8
  · rw [if_pos h8]
    show X _ = X _
    congr 2; omega
  · rw [if_neg h8]
    show X _ = X _
    congr 2; omega

theorem listed_step (X g : S256.Idx → BitVec 32) (v : ℕ) (hv : v < 8) (hg : Listed X v g)
    (h1 : InB (lanes (32 * v) Gen.k0_pay1)) (h2 : InB (lanes (32 * v + 16) Gen.k0_pay1))
    (h3 : InB (lanes (32 * v) Gen.k0_pay2)) (h4 : InB (lanes (32 * v + 16) Gen.k0_pay2)) :
    Listed X (v + 1) (VecWindow.put (VecWindow.put g ![16 * v] S16.size (userWords (pick (F := F) X _ h1) (pick (F := F) X _ h2)))
      ![128 + 16 * v] S16.size (movieWords (pick (F := F) X _ h3) (pick (F := F) X _ h4))) := by
  intro j hj
  unfold userWords movieWords
  rw [shapeCast_self, shapeCast_self]
  by_cases hin : 128 + 16 * v ≤ (j 0).val ∧ (j 0).val < 128 + 16 * v + 16
  · refine (put_apply_in (n := 256) _ _ _ j hin).trans ?_
    show select Gen.k0_pay3 _ _ (lane _ _) + 500000#32 = _
    rw [joined_apply X v hv _ 1 odds_toNat (by decide)]
    unfold list
    rw [dif_neg (by omega)]
    congr 3; omega
  refine (put_apply_out (n := 256) _ _ _ j hin).trans ?_
  by_cases hin' : 16 * v ≤ (j 0).val ∧ (j 0).val < 16 * v + 16
  · refine (put_apply_in (n := 256) _ _ _ j hin').trans ?_
    rw [joined_apply X v hv _ 0 evens_toNat (by decide)]
    unfold list
    rw [dif_pos (by omega)]
    congr 2; omega
  refine (put_apply_out (n := 256) _ _ _ j hin').trans (hg j ?_)
  omega

/-- The index buffer, vectors `0 … v-1` of the list made. -/
abbrev ListedAt (d : Dev nD) (i : grid0.Coords) (ic : Memref sig .scVector .vmem S256 .i32) (X : S256.Idx → Elt F .i32) (v : ℕ) : sProp 𝕄 :=
  iprop(∃ g, ⌜Listed X v g⌝ ∗ At (F := F) d i ic fullShare g)

theorem wp_deint (d : Dev nD) (i : grid0.Coords) (x ic : Memref sig .scVector .vmem S256 .i32) (q : PosShare TreeShare) (X : S256.Idx → Elt F .i32)
    (v : ℕ) (hv : v < 8) (k : PUnit → TProg F i PUnit) (Q : PUnit → sProp 𝕄) :
    iprop(At d i x q X ∗ ListedAt d i ic X v)
      ⊢ iprop((iprop(At d i x q X ∗ ListedAt d i ic X (v + 1)) -∗ TWp d i (k ⟨⟩) Q) -∗ TWp d i (deint i x ic v hv >>= k) Q) := by
  unfold deint
  simp only [Prog.bind_assoc]
  iintro ⟨Hx, %g, %hg, Hg⟩ Hk
  iapply (wp_readAt d i x q X _ (inB_lanes _ _ (by omega) evens_lt)) $$ Hx; iintro Hx
  iapply (wp_readAt d i x q X _ (inB_lanes _ _ (by omega) evens_lt)) $$ Hx; iintro Hx
  iapply (wp_readAt d i x q X _ (inB_lanes _ _ (by omega) odds_lt)) $$ Hx; iintro Hx
  iapply (wp_readAt d i x q X _ (inB_lanes _ _ (by omega) odds_lt)) $$ Hx; iintro Hx
  iapply (wp_loadAt d i ic fullShare) $$ Hg; iintro Hg
  iapply (wp_storeAt d i ic) $$ Hg; iintro Hg
  iapply (wp_loadAt d i ic fullShare) $$ Hg; iintro Hg
  iapply (wp_storeAt d i ic) $$ Hg; iintro Hg
  iapply Hk
  isplitl [Hx]; · iexact Hx
  iexists _; isplitr
  swap; · iexact Hg
  ipureintro; exact listed_step X g v hv hg _ _ _ _

theorem wp_indices (d : Dev nD) (i : grid0.Coords) (x ic : Memref sig .scVector .vmem S256 .i32) (q : PosShare TreeShare) (X g : S256.Idx → Elt F .i32)
    (k : PUnit → TProg F i PUnit) (Q : PUnit → sProp 𝕄) :
    iprop(At d i x q X ∗ At d i ic fullShare g)
      ⊢ iprop((iprop(At d i x q X ∗ At (F := F) d i ic fullShare (list X)) -∗ TWp d i (k ⟨⟩) Q) -∗ TWp d i (indices i x ic >>= k) Q) := by
  unfold indices
  simp only [Prog.bind_assoc]
  iintro ⟨Hx, Hg⟩ Hk
  ihave H : iprop(At d i x q X ∗ ListedAt d i ic X 0) $$ [Hx Hg]
  · isplitl [Hx]; · iexact Hx
    iexists g; isplitr
    swap; · iexact Hg
    ipureintro; intro j hj; omega
  iapply (wp_deint d i x ic q X 0) $$ H; iintro H
  iapply (wp_deint d i x ic q X 1) $$ H; iintro H
  iapply (wp_deint d i x ic q X 2) $$ H; iintro H
  iapply (wp_deint d i x ic q X 3) $$ H; iintro H
  iapply (wp_deint d i x ic q X 4) $$ H; iintro H
  iapply (wp_deint d i x ic q X 5) $$ H; iintro H
  iapply (wp_deint d i x ic q X 6) $$ H; iintro H
  iapply (wp_deint d i x ic q X 7) $$ H; iintro ⟨Hx, %g', %hg', Hg⟩
  iapply Hk
  rw [hg'.all]
  isplitl [Hx] <;> iassumption

/-! ## The answers -/

/-- Vectors `0 … v-1` of the answers are made. -/
def Summed (R : S256.Idx → Elt F .f32) (bias : S16.Idx → Elt F .f32) (v : ℕ) (g : S128.Idx → Elt F .f32) : Prop :=
  ∀ j : S128.Idx, (j 0).val < 16 * v → g j = sums R bias j

theorem Summed.all {R : S256.Idx → Elt F .f32} {bias : S16.Idx → Elt F .f32} {g : S128.Idx → Elt F .f32} (h : Summed R bias 8 g) : g = sums R bias := by
  funext j; apply h; have := (j 0).isLt; change (j 0).val < 128 at this; omega

theorem window_lane {α : Type} (X : S256.Idx → α) (o : ℕ) (inb : ∀ a, (![o] : Fin 1 → ℕ) a + S16.size a ≤ S256.size a) (n : ℕ) (hn : n < 16) (ho : o + n < 256) :
    VecWindow.window X ![o] S16.size inb (lane n hn) = X (at256 (o + n) ho) := by
  show X _ = X _
  congr 1; funext a; match a with
  | 0 => exact Fin.ext (show o + 1 * n = o + n by omega)

theorem summed_step (R : S256.Idx → Elt F .f32) (bias : S16.Idx → Elt F .f32) (g : S128.Idx → Elt F .f32) (v : ℕ) (hv : v < 8) (hg : Summed R bias v g) :
    Summed R bias (v + 1) (VecWindow.put g ![16 * v] S16.size
      (answerWords bias (VecWindow.window R ![16 * v] S16.size (inb_lo v hv)) (VecWindow.window R ![128 + 16 * v] S16.size (inb_hi v hv)))) := by
  intro j hj
  unfold answerWords
  simp only [shapeCast_self]
  by_cases hin : 16 * v ≤ (j 0).val ∧ (j 0).val < 16 * v + 16
  · refine (put_apply_in (n := 128) _ _ _ j hin).trans ?_
    show FloatOps.addf (FloatOps.addf (VecWindow.window R ![16 * v] S16.size (inb_lo v hv) (lane ((j 0).val - 16 * v) (by omega)))
      (VecWindow.window R ![128 + 16 * v] S16.size (inb_hi v hv) (lane ((j 0).val - 16 * v) (by omega)))) _ = _
    rw [window_lane R _ _ _ _ (by omega), window_lane R _ _ _ _ (by omega)]
    unfold sums
    congr 1
    · congr 3 <;> omega
    · congr 2; omega
  exact (put_apply_out (n := 128) _ _ _ j hin).trans (hg j (by omega))

abbrev SummedAt (d : Dev nD) (i : grid0.Coords) (y : Memref sig .scVector .vmem S128 .f32) (R : S256.Idx → Elt F .f32) (bias : S16.Idx → Elt F .f32) (v : ℕ) : sProp 𝕄 :=
  iprop(∃ g, ⌜Summed R bias v g⌝ ∗ At (F := F) d i y fullShare g)

theorem wp_answer (d : Dev nD) (i : grid0.Coords) (r : Memref sig .scVector .vmem S256 .f32) (y : Memref sig .scVector .vmem S128 .f32) (q : PosShare TreeShare)
    (R : S256.Idx → Elt F .f32) (bias : S16.Idx → Elt F .f32) (v : ℕ) (hv : v < 8) (k : PUnit → TProg F i PUnit) (Q : PUnit → sProp 𝕄) :
    iprop(At d i r q R ∗ SummedAt d i y R bias v)
      ⊢ iprop((iprop(At d i r q R ∗ SummedAt d i y R bias (v + 1)) -∗ TWp d i (k ⟨⟩) Q) -∗ TWp d i (answer i r y bias v hv >>= k) Q) := by
  unfold answer
  simp only [Prog.bind_assoc]
  iintro ⟨Hr, %g, %hg, Hg⟩ Hk
  iapply (wp_loadAt d i r q) $$ Hr; iintro Hr
  iapply (wp_loadAt d i r q) $$ Hr; iintro Hr
  iapply (wp_loadAt d i y fullShare) $$ Hg; iintro Hg
  iapply (wp_storeAt d i y) $$ Hg; iintro Hg
  iapply Hk
  isplitl [Hr]; · iexact Hr
  iexists _; isplitr
  swap; · iexact Hg
  ipureintro; exact summed_step R bias g v hv hg

theorem wp_answers (d : Dev nD) (i : grid0.Coords) (r : Memref sig .scVector .vmem S256 .f32) (y : Memref sig .scVector .vmem S128 .f32) (q : PosShare TreeShare)
    (R : S256.Idx → Elt F .f32) (bias : S16.Idx → Elt F .f32) (g : S128.Idx → Elt F .f32) (k : PUnit → TProg F i PUnit) (Q : PUnit → sProp 𝕄) :
    iprop(At d i r q R ∗ At d i y fullShare g)
      ⊢ iprop((iprop(At d i r q R ∗ At d i y fullShare (sums R bias)) -∗ TWp d i (k ⟨⟩) Q) -∗ TWp d i (answers i r y bias >>= k) Q) := by
  unfold answers
  simp only [Prog.bind_assoc]
  iintro ⟨Hr, Hg⟩ Hk
  ihave H : iprop(At d i r q R ∗ SummedAt d i y R bias 0) $$ [Hr Hg]
  · isplitl [Hr]; · iexact Hr
    iexists g; isplitr
    swap; · iexact Hg
    ipureintro; intro j hj; omega
  iapply (wp_answer d i r y q R bias 0) $$ H; iintro H
  iapply (wp_answer d i r y q R bias 1) $$ H; iintro H
  iapply (wp_answer d i r y q R bias 2) $$ H; iintro H
  iapply (wp_answer d i r y q R bias 3) $$ H; iintro H
  iapply (wp_answer d i r y q R bias 4) $$ H; iintro H
  iapply (wp_answer d i r y q R bias 5) $$ H; iintro H
  iapply (wp_answer d i r y q R bias 6) $$ H; iintro H
  iapply (wp_answer d i r y q R bias 7) $$ H; iintro ⟨Hr, %g', %hg', Hg⟩
  iapply Hk
  rw [hg'.all]
  isplitl [Hr] <;> iassumption

end Cert.Proof.K
end
-- ==== Proof.Copies.lean ====
/-
  A chunk's copies, run by values: the copy in (`wp_startX`), the wait for it with the index list made and the indexed
  copy of the table started (`wp_fetch`), the wait for that with the answers made and their copy out started
  (`wp_finish`), and the waits for the four copies out (`wp_drain`, `wp_drainLast`).
-/
module

public import proofs.«01_k».proof.Proof.Vectors

@[expose] public section

noncomputable section

namespace Cert.Proof.K

open Cert.KernelIdeal Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## The table's rows that a list names -/

/-- Element `w` of the table, for a word `w` (a word past the table's end, which no list holds, wraps). -/
abbrev tabIx (w : BitVec 32) : S1000000.Idx := fun a => match a with | 0 => ⟨w.toNat % 1000000, Nat.mod_lt _ (by decide)⟩

/-- The rows of the table that the list `L` names. -/
def gathered (T : S1000000.Idx → Elt F .f32) (L : S256.Idx → BitVec 32) : S256.Idx → Elt F .f32 := fun j => T (tabIx (L j))

theorem list_lt (X : S256.Idx → BitVec 32) (hX : ∀ j, (X j).toNat < 500000) (j : S256.Idx) : (list X j).toNat < 1000000 := by
  unfold list
  split
  · exact lt_trans (hX _) (by decide)
  · have h := hX (at256 (2 * ((j 0).val - 128) + 1) (by have := (j 0).isLt; change (j 0).val < 256 at this; omega))
    rw [BitVec.toNat_add]
    change (_ + 500000) % _ < _
    omega

theorem payload_eq (T T' : S1000000.Idx → Elt F .f32) (L L' : S256.Idx → BitVec 32) (hT : T' = T) (hL : L' = L)
    (hn : S256.numel = S256.size (gathers_S1000000_S256).axis') (hin : ∀ x, (L' x).toNat < S1000000.size (gathers_S1000000_S256).axis) :
    SparseCore.gatherPayload (F := F) (e := .f32) gathers_S1000000_S256 T' (SparseCore.rows (F := F) L' hn hin) = gathered T L := by
  subst hT; subst hL
  funext j
  show T' _ = T' _
  congr 1; funext a; match a with
  | 0 =>
    refine (Shape.Gathers.idx_axis gathers_S1000000_S256 _ j).trans (Fin.ext ?_)
    show (L' _).toNat = (L' j).toNat % 1000000
    rw [Nat.mod_eq_of_lt (show (L' j).toNat < 1000000 from hin j)]
    congr 2
    rw [Equiv.symm_apply_eq]
    exact Fin.ext (Shape.rowMajor_val_one j).symm

/-! ## Copies and waits -/

/-- A local copy started: what it will deliver is the target at the source's values, and the source back. -/
theorem wp_copy (d : Dev nD) (i : grid0.Coords) {sp sp' : Space} {s : Shape} {e : EltTy} (src : Memref sig .scVector sp s e) (dst : Memref sig .scVector sp' s e)
    (sm : DmaSem sig) (q : PosShare TreeShare) (X g : s.Idx → Elt F e) (hs : 0 < s.numel) {h1 h2 h3} (k : PUnit → TProg F i PUnit) (Q : PUnit → sProp 𝕄) :
    iprop(At d i src q X ∗ At d i dst fullShare g ∗ semVal (thr d i, SemLoc.dma sm) 0)
      ⊢ iprop((Transfers.Flight countersEmb (thr d i) (.dma sm) (default : HIx 1) dst.view.dmaCredit iprop(At d i dst fullShare X ∗ At d i src q X)
          -∗ TWp d i (k ⟨⟩) Q) -∗ TWp d i (Prog.lift (.enqueueDma src (.here dst) (.dma sm) h1 h2 h3) >>= k) Q) := by
  refine (Transfers.wp_dmaLocal (defs := defs₀ (F := F)) countersEmb 𝒱₀ (thr d i) none (default : HIx 1) (Q := Q) (k := k) (src := src) (dst := dst) (via := .same) (sm := .dma sm)
    (hsrc := h1) (hdst := h2) (hsem := h3) (q := q) (fs := src.view.rep X) (fd := dst.view.rep g) (Sd := dst.view.set) dst.view.dmaCredit rfl
    (View.dmaCredit_pos _ hs) (Finset.Subset.refl _)).trans (wand_mono_left (wand_mono_left (Transfers.Flight_mono countersEmb (thr d i) ?_)))
  refine sep_mono_left (pointsTo_rep_of_read (thr d i) dst _ fullShare X ?_)
  rw [View.read_write_univ, View.read_rep]

/-- What the tile owes: the obligations `O`, its waits beyond `W` all on its own copies. -/
abbrev Owe (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

/-- One more of the tile's waits on its own copies. -/
theorem owe_insert (d : Dev nD) (i : grid0.Coords) (O : CellTallies nD τ sig (HIx 1)) (W W' : Waits sig (HIx 1)) (hW : ∀ p ∈ W', p ∈ W ∨ p.2 = none) (sm : SemLoc sig) :
    (owes (thr d i) O (insert (sm, (default : HIx 1)) W') : sProp 𝕄) ⊢ Owe d i O W := by
  iintro H
  iexists _; isplitr
  swap; · iexact H
  ipureintro; intro p hp
  rcases Finset.mem_insert.mp hp with hp | hp
  · exact .inr (hp ▸ rfl)
  · exact hW p hp

/-- The wait for a copy in flight: its delivery, and its semaphore at zero again. -/
theorem wp_await (d : Dev nD) (i : grid0.Coords) {sp sp' : Space} {s s' : Shape} {e e' : EltTy} (srcw : Memref sig .scVector sp' s' e') (dstw : Memref sig .scVector sp s e)
    (sm : DmaSem sig) (D : sProp 𝕄) (O : CellTallies nD τ sig (HIx 1)) (W : Waits sig (HIx 1)) {h1 h2} (k : PUnit → TProg F i PUnit) (Q : PUnit → sProp 𝕄) :
    iprop(Transfers.MayWaits (thr d i) (default : HIx 1) O
        ∗ Transfers.Flight countersEmb (thr d i) (.dma sm) (default : HIx 1) dstw.view.dmaCredit D ∗ Owe d i O W)
      ⊢ iprop((iprop(D ∗ semVal (thr d i, SemLoc.dma sm) 0 ∗ Owe d i O W) -∗ TWp d i (k ⟨⟩) Q)
        -∗ TWp d i (Prog.lift (.waitDma2 sm srcw dstw h1 h2) >>= k) Q) := by
  iintro ⟨Hmw, Hfl, %W', %hW, HO⟩ Hk
  iapply (Transfers.wp_waitLocalO (defs := defs₀ (F := F)) countersEmb 𝒱₀ (thr d i) none (Q := Q) (k := k) (srcw := srcw) (dstw := dstw) (default : HIx 1) rfl) $$ [Hmw Hfl HO]
  · isplitl [Hfl]; · iexact Hfl
    isplitl [HO]; · iexact HO
    iapply (Transfers.MayWaits.elim (SemLoc.dma sm)) $$ Hmw
  iintro ⟨HD, Hsem, HO⟩
  iapply Hk
  isplitl [HD]; · iexact HD
  isplitl [Hsem]; · iexact Hsem
  iapply (owe_insert d i O W W' hW) $$ HO

/-- The indexed copy started. -/
theorem wp_gather (d : Dev nD) (i : grid0.Coords) (t : Memref sig .scVector .hbm S1000000 .f32) (rv : Memref sig .scVector .vmem S256 .f32)
    (ic : Memref sig .scVector .vmem S256 .i32) (sm : DmaSem sig) (q : PosShare TreeShare) (T : S1000000.Idx → Elt F .f32) (g : S256.Idx → Elt F .f32)
    (L : S256.Idx → Elt F .i32) (hL : ∀ j, (L j : BitVec 32).toNat < 1000000)
    (hN : ∑ j, (rv.slice (S256.rowRect (gathers_S1000000_S256).axis' j) (S256.stride_rowRect (gathers_S1000000_S256).axis' j)).view.dmaCredit = rv.view.dmaCredit)
    {h1 h2 h3 h4 h5 h6} (k : PUnit → TProg F i PUnit) (Q : PUnit → sProp 𝕄) :
    iprop(At d i t q T ∗ At d i rv fullShare g ∗ At d i ic fullShare L ∗ semVal (thr d i, SemLoc.dma sm) 0)
      ⊢ iprop((Transfers.Flight countersEmb (thr d i) (.dma sm) (default : HIx 1) rv.view.dmaCredit
          iprop(At d i rv fullShare (gathered T L) ∗ At d i t q T ∗ At d i ic fullShare L) -∗ TWp d i (k ⟨⟩) Q)
        -∗ TWp d i (SparseCore.enqueueIndirectGather h1 t rv gathers_S1000000_S256 ic h2 sm h3 h4 h5 h6 >>= k) Q) := by
  refine (SparseCore.wp_indirectGatherLocal (defs := defs₀ (F := F)) countersEmb 𝒱₀ (thr d i) none (Q := Q) (k := k) (src := t) (dst := rv) (offs := ic) (sem := sm)
    (hg := gathers_S1000000_S256) (q := q) (qo := fullShare) (fs := t.view.rep T) (fd := rv.view.rep g) (fo := ic.view.rep L) (default : HIx 1)
    rv.view.dmaCredit hN (by decide) (by rw [View.read_rep]; exact hL)).trans (wand_mono_left (wand_mono_left (Transfers.Flight_mono countersEmb (thr d i) ?_)))
  refine sep_mono_left (pointsTo_rep_of_read (thr d i) rv _ fullShare _ ?_)
  rw [View.read_write_univ]
  exact payload_eq T _ L _ (View.read_rep _ _) (View.read_rep _ _) _ _

/-! ## One chunk -/

/-- A copy in, waited for; the chunk's index list made; the indexed copy along it started. -/
theorem wp_fetch (d : Dev nD) (i : grid0.Coords) (a : Memref sig .scVector .hbm S32768 .i32) (t : Memref sig .scVector .hbm S1000000 .f32) (r : Fin 4)
    (x : Memref sig .scVector .vmem S256 .i32) (hx : x.IsWhole) (ic : Memref sig .scVector .vmem S256 .i32) (rv : Memref sig .scVector .vmem S256 .f32)
    (sem gsem : DmaSem sig) (q : PosShare TreeShare) (X : S256.Idx → Elt F .i32) (hX : ∀ j, (X j : BitVec 32).toNat < 500000) (T : S1000000.Idx → Elt F .f32) (P : sProp 𝕄)
    (hN : ∑ j, (rv.slice (S256.rowRect (gathers_S1000000_S256).axis' j) (S256.stride_rowRect (gathers_S1000000_S256).axis' j)).view.dmaCredit = rv.view.dmaCredit)
    (O : CellTallies nD τ sig (HIx 1)) (W : Waits sig (HIx 1)) (k : PUnit → TProg F i PUnit) (Q : PUnit → sProp 𝕄) :
    iprop(Transfers.MayWaits (thr d i) (default : HIx 1) O
        ∗ Transfers.Flight countersEmb (thr d i) (.dma sem) (default : HIx 1) x.view.dmaCredit iprop(At d i x fullShare X ∗ P)
        ∗ Owe d i O W ∗ (∃ g, At (F := F) d i ic fullShare g) ∗ (∃ g, At (F := F) d i rv fullShare g) ∗ At d i (tAt t) q T ∗ semVal (thr d i, SemLoc.dma gsem) 0)
      ⊢ iprop((iprop(At d i x fullShare X ∗ P ∗ semVal (thr d i, SemLoc.dma sem) 0 ∗ Owe d i O W
            ∗ Transfers.Flight countersEmb (thr d i) (.dma gsem) (default : HIx 1) rv.view.dmaCredit
                iprop(At d i rv fullShare (gathered T (list X)) ∗ At d i (tAt t) q T ∗ At (F := F) d i ic fullShare (list X)))
          -∗ TWp d i (k ⟨⟩) Q)
        -∗ TWp d i (fetch i a t r x hx ic rv sem gsem >>= k) Q) := by
  unfold fetch
  simp only [Prog.bind_assoc]
  iintro ⟨Hmw, Hfl, HO, ⟨%g, Hic⟩, ⟨%g', Hrv⟩, Ht, Hg⟩ Hk
  iapply (wp_await d i (xAt i a r) x sem _ O W) $$ [Hmw Hfl HO]
  · isplitl [Hmw]; · iexact Hmw
    isplitl [Hfl] <;> iassumption
  iintro ⟨⟨Hx, HP⟩, Hsem, HO⟩
  iapply (wp_indices d i x ic fullShare X g) $$ [Hx Hic]
  · isplitl [Hx] <;> iassumption
  iintro ⟨Hx, Hic⟩
  iapply (wp_gather d i (tAt t) rv ic gsem q T g' (list X) (list_lt X hX) hN) $$ [Ht Hrv Hic Hg]
  · isplitl [Ht]; · iexact Ht
    isplitl [Hrv]; · iexact Hrv
    isplitl [Hic] <;> iassumption
  iintro Hfl
  iapply Hk
  isplitl [Hx]; · iexact Hx
  isplitl [HP]; · iexact HP
  isplitl [Hsem]; · iexact Hsem
  isplitl [HO] <;> iassumption

/-- What the four copies out deliver: each chunk's part of the result at its answers, and its buffer back. -/
def outD (d : Dev nD) (i : grid0.Coords) (o : Memref sig .scVector .hbm S16384 .f32) (y : Fin 4 → Memref sig .scVector .vmem S128 .f32)
    (Y : Fin 4 → S128.Idx → Elt F .f32) (r : Fin 4) : sProp 𝕄 :=
  iprop(At d i (oAt i o r) fullShare (Y r) ∗ At d i (y r) fullShare (Y r))

instance outD_storable (d : Dev nD) (i : grid0.Coords) (o : Memref sig .scVector .hbm S16384 .f32) (y : Fin 4 → Memref sig .scVector .vmem S128 .f32)
    (Y : Fin 4 → S128.Idx → Elt F .f32) (r : Fin 4) : BI.Storable (upEmb : UEmb _ 𝕄) (outD d i o y Y r) := by
  unfold outD; infer_instance

/-- What each copy out credits. -/
abbrev outN (i : grid0.Coords) (o : Memref sig .scVector .hbm S16384 .f32) : ℕ := (oAt i o 0).view.dmaCredit

theorem wp_finish (d : Dev nD) (i : grid0.Coords) (t : Memref sig .scVector .hbm S1000000 .f32) (o : Memref sig .scVector .hbm S16384 .f32) (r : Fin 4)
    (rv : Memref sig .scVector .vmem S256 .f32) (hrv : rv.IsWhole) (y : Fin 4 → Memref sig .scVector .vmem S128 .f32) (hy : (y r).IsWhole) (bias : Vec F S16 .f32)
    (gsem osem : DmaSem sig) (R : S256.Idx → Elt F .f32) (Y : Fin 4 → S128.Idx → Elt F .f32) (hY : Y r = sums R bias) (P : sProp 𝕄)
    (O : CellTallies nD τ sig (HIx 1)) (W : Waits sig (HIx 1)) (k : PUnit → TProg F i PUnit) (Q : PUnit → sProp 𝕄) :
    iprop(Transfers.MayWaits (thr d i) (default : HIx 1) O
        ∗ Transfers.Flight countersEmb (thr d i) (.dma gsem) (default : HIx 1) rv.view.dmaCredit iprop(At d i rv fullShare R ∗ P)
        ∗ Owe d i O W ∗ (∃ g, At (F := F) d i (y r) fullShare g) ∗ (∃ g, At (F := F) d i (oAt i o r) fullShare g)
        ∗ Transfers.Batch countersEmb (thr d i) (.dma osem) (default : HIx 1) (outN i o) (outD d i o y Y) r.val 0)
      ⊢ iprop((iprop(At d i rv fullShare R ∗ P ∗ semVal (thr d i, SemLoc.dma gsem) 0 ∗ Owe d i O W
            ∗ Transfers.Batch countersEmb (thr d i) (.dma osem) (default : HIx 1) (outN i o) (outD d i o y Y) (r.val + 1) 0)
          -∗ TWp d i (k ⟨⟩) Q)
        -∗ TWp d i (finish i t o r rv hrv (y r) hy bias gsem osem >>= k) Q) := by
  unfold finish
  simp only [Prog.bind_assoc]
  iintro ⟨Hmw, Hfl, HO, ⟨%g, Hy⟩, ⟨%g', Ho⟩, HB⟩ Hk
  iapply (wp_await d i (tAt t) rv gsem _ O W) $$ [Hmw Hfl HO]
  · isplitl [Hmw]; · iexact Hmw
    isplitl [Hfl] <;> iassumption
  iintro ⟨⟨Hr, HP⟩, Hsem, HO⟩
  iapply (wp_answers d i rv (y r) fullShare R bias g) $$ [Hr Hy]
  · isplitl [Hr] <;> iassumption
  iintro ⟨Hr, Hy⟩
  iapply (Transfers.wp_dmaBatch (defs := defs₀ (F := F)) countersEmb 𝒱₀ (thr d i) none (Q := Q) (src := y r) (dst := oAt i o r) (via := .same) (sm := .dma osem)
    (D := outD d i o y Y) (j := r.val) (u := 0) (q := fullShare) (fs := (y r).view.rep (sums R bias)) (Sd := (oAt i o r).view.set) (fd := (oAt i o r).view.rep g') (default : HIx 1) (outN i o) rfl (Finset.Subset.refl _) r.isLt (Nat.zero_le _)
    (by
      show _ ⊢ iprop(At d i (oAt i o r) fullShare (Y r) ∗ At d i (y r) fullShare (Y r))
      rw [hY]
      refine sep_mono_left (pointsTo_rep_of_read (thr d i) (oAt i o r) _ fullShare _ ?_)
      rw [View.read_write_univ, View.read_rep])) $$ [Hy Ho HB]
  · isplitl [Hy]; · iexact Hy
    isplitl [Ho] <;> iassumption
  iintro HB
  iapply Hk
  isplitl [Hr]; · iexact Hr
  isplitl [HP]; · iexact HP
  isplitl [Hsem]; · iexact Hsem
  isplitl [HO] <;> iassumption

/-- The wait for a copy out that is not the last. -/
theorem wp_drain (d : Dev nD) (i : grid0.Coords) (o : Memref sig .scVector .hbm S16384 .f32) (r : Fin 4) (y : Fin 4 → Memref sig .scVector .vmem S128 .f32) (hy : (y r).IsWhole)
    (osem : DmaSem sig) (Y : Fin 4 → S128.Idx → Elt F .f32) (hr : r.val + 1 < 4)
    (O : CellTallies nD τ sig (HIx 1)) (W : Waits sig (HIx 1)) (k : PUnit → TProg F i PUnit) (Q : PUnit → sProp 𝕄) :
    iprop(Transfers.MayWaits (thr d i) (default : HIx 1) O ∗ Owe d i O W
        ∗ Transfers.Batch countersEmb (thr d i) (.dma osem) (default : HIx 1) (outN i o) (outD d i o y Y) 4 (r.val * outN i o))
      ⊢ iprop((iprop(Owe d i O W ∗ Transfers.Batch countersEmb (thr d i) (.dma osem) (default : HIx 1) (outN i o) (outD d i o y Y) 4 ((r.val + 1) * outN i o))
          -∗ TWp d i (k ⟨⟩) Q)
        -∗ TWp d i (drain i o r (y r) hy osem >>= k) Q) := by
  have h0 : 0 < outN i o := View.dmaCredit_pos _ (by decide)
  iintro ⟨Hmw, ⟨%W', %hW, HO⟩, HB⟩ Hk
  iapply (Transfers.wp_waitBatchO (defs := defs₀ (F := F)) countersEmb 𝒱₀ (thr d i) none (Q := Q) (srcw := y r) (dstw := oAt i o r) (default : HIx 1) (N := outN i o) rfl
    (by have h := Nat.mul_lt_mul_of_pos_right hr h0; rw [Nat.mul_comm (outN i o) 4]; calc
          r.val * outN i o + outN i o = (r.val + 1) * outN i o := by ring
          _ < 4 * outN i o := h)) $$ [Hmw HO HB]
  · isplitl [HB]; · iexact HB
    isplitl [HO]; · iexact HO
    iapply (Transfers.MayWaits.elim (SemLoc.dma osem)) $$ Hmw
  iintro ⟨HB, HO⟩
  iapply Hk
  isplitl [HO]; · iapply (owe_insert d i O W W' hW) $$ HO
  rw [show (r.val + 1) * outN i o = r.val * outN i o + outN i o by ring]
  iexact HB

/-- The wait for the last copy out: all four have landed. -/
theorem wp_drainLast (d : Dev nD) (i : grid0.Coords) (o : Memref sig .scVector .hbm S16384 .f32) (y : Fin 4 → Memref sig .scVector .vmem S128 .f32) (hy : (y 3).IsWhole)
    (osem : DmaSem sig) (Y : Fin 4 → S128.Idx → Elt F .f32)
    (O : CellTallies nD τ sig (HIx 1)) (W : Waits sig (HIx 1)) (k : PUnit → TProg F i PUnit) (Q : PUnit → sProp 𝕄) :
    iprop(Transfers.MayWaits (thr d i) (default : HIx 1) O ∗ Owe d i O W
        ∗ Transfers.Batch countersEmb (thr d i) (.dma osem) (default : HIx 1) (outN i o) (outD d i o y Y) 4 (3 * outN i o))
      ⊢ iprop((iprop(Owe d i O W ∗ bigSep Finset.univ (outD d i o y Y) ∗ semVal (thr d i, SemLoc.dma osem) 0) -∗ TWp d i (k ⟨⟩) Q)
        -∗ TWp d i (drain i o 3 (y 3) hy osem >>= k) Q) := by
  iintro ⟨Hmw, ⟨%W', %hW, HO⟩, HB⟩ Hk
  iapply (Transfers.wp_waitBatchLastO (defs := defs₀ (F := F)) countersEmb 𝒱₀ (thr d i) none (Q := Q) (srcw := y 3) (dstw := oAt i o 3) (default : HIx 1) (N := outN i o) (n := 4)
    (D := outD d i o y Y) (u := 3 * outN i o) rfl
    (View.dmaCredit_pos _ (by decide)) (by ring)) $$ [Hmw HO HB]
  · isplitl [HB]; · iexact HB
    isplitl [HO]; · iexact HO
    iapply (Transfers.MayWaits.elim (SemLoc.dma osem)) $$ Hmw
  iintro ⟨HD, Hsem, HO⟩
  iapply Hk
  isplitl [HO]; · iapply (owe_insert d i O W W' hW) $$ HO
  isplitl [HD] <;> iassumption

end Cert.Proof.K
end
-- ==== Proof.Run.lean ====
/-
  The tile's body run by values (`wp_body`), over any buffers and semaphores: from shares of the operands, its four
  chunks of the result and its scratch, to the same with each chunk of the result at its answers.
-/
module

public import proofs.«01_k».proof.Proof.Copies

@[expose] public section

noncomputable section

namespace Cert.Proof.K

open Cert.KernelIdeal Facts₀ Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

omit [FloatOps F] [∀ e, Nonempty (Elt F e)] in
/-- Four resources, one by one. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- A vector's window that is all of it. -/
theorem window_all (B : S16.Idx → Elt F .f32) (inb : ∀ a, (![0] : Fin 1 → ℕ) a + S16.size a ≤ S16.size a) :
    VecWindow.window (s := S16) B ![0] S16.size inb = B := by
  funext j
  show B _ = B j
  congr 1; funext a; match a with
  | 0 => exact Fin.ext (by show 0 + 1 * (j 0).val = (j 0).val; omega)

/-- What a chunk reads: its words and the table, at a share. -/
abbrev Reads (d : Dev nD) (i : grid0.Coords) (a : Memref sig .scVector .hbm S32768 .i32) (t : Memref sig .scVector .hbm S1000000 .f32) (q : PosShare TreeShare)
    (X : S256.Idx → Elt F .i32) (T : S1000000.Idx → Elt F .f32) (r : Fin 4) : sProp 𝕄 :=
  iprop(At d i (xAt i a r) q X ∗ At d i (tAt t) q T)

/-- A chunk's four buffers, at whatever they hold, and its two semaphores. -/
abbrev Own (d : Dev nD) (i : grid0.Coords) (x ic : Memref sig .scVector .vmem S256 .i32) (rv : Memref sig .scVector .vmem S256 .f32)
    (y : Memref sig .scVector .vmem S128 .f32) (sx sg : DmaSem sig) : sProp 𝕄 :=
  iprop((∃ g, At (F := F) d i x fullShare g) ∗ (∃ g, At (F := F) d i ic fullShare g) ∗ (∃ g, At (F := F) d i rv fullShare g)
    ∗ (∃ g, At (F := F) d i y fullShare g) ∗ semVal (thr d i, SemLoc.dma sx) 0 ∗ semVal (thr d i, SemLoc.dma sg) 0)

/-- Chunk `r`'s answers. -/
abbrev answersOf (X : Fin 4 → S256.Idx → Elt F .i32) (T : S1000000.Idx → Elt F .f32) (B : S16.Idx → Elt F .f32) (r : Fin 4) : S128.Idx → Elt F .f32 :=
  sums (gathered T (list (X r))) B

/-- Nothing left to run. -/
theorem wp_done (d : Dev nD) (i : grid0.Coords) (Q : PUnit → sProp 𝕄) : Q ⟨⟩ ⊢ TWp d i (pure ⟨⟩) Q := by
  show _ ⊢ wp frame (wpE (defs₀ (F := F)) 𝒱₀ (thr d i) none) Set.univ (pure ⟨⟩) Q
  rw [wp_pure]; exact fupd_intro

/-- What the four copies out deliver, one by one. -/
theorem outD_four (d : Dev nD) (i : grid0.Coords) (o : Memref sig .scVector .hbm S16384 .f32) (y : Fin 4 → Memref sig .scVector .vmem S128 .f32)
    (Y : Fin 4 → S128.Idx → Elt F .f32) :
    bigSep Finset.univ (outD d i o y Y) = iprop((At d i (oAt i o 0) fullShare (Y 0) ∗ At d i (y 0) fullShare (Y 0))
      ∗ (At d i (oAt i o 1) fullShare (Y 1) ∗ At d i (y 1) fullShare (Y 1))
      ∗ (At d i (oAt i o 2) fullShare (Y 2) ∗ At d i (y 2) fullShare (Y 2)) ∗ (At d i (oAt i o 3) fullShare (Y 3) ∗ At d i (y 3) fullShare (Y 3))) :=
  bigSep_four _

set_option maxHeartbeats 4000000 in
/-- The body, from its operands' shares and its own buffers: each chunk of the result at its answers, all else back. -/
theorem wp_body (d : Dev nD) (i : grid0.Coords) (a : Memref sig .scVector .hbm S32768 .i32) (ha : a.IsWhole) (t : Memref sig .scVector .hbm S1000000 .f32) (ht : t.IsWhole)
    (b : Memref sig .scVector .hbm S16 .f32) (hb : b.IsWhole) (o : Memref sig .scVector .hbm S16384 .f32) (ho : o.IsWhole)
    (x ic : Fin 4 → Memref sig .scVector .vmem S256 .i32) (hx : ∀ r, (x r).IsWhole) (hic : ∀ r, (ic r).IsWhole)
    (rv : Fin 4 → Memref sig .scVector .vmem S256 .f32) (hrv : ∀ r, (rv r).IsWhole) (y : Fin 4 → Memref sig .scVector .vmem S128 .f32) (hy : ∀ r, (y r).IsWhole)
    (bv : Memref sig .scVector .vmem S16 .f32) (hbv : bv.IsWhole) (sx sg : Fin 4 → DmaSems sig S_) (so sb : DmaSems sig S_)
    (q : Fin 4 → PosShare TreeShare) (qb : PosShare TreeShare)
    (X : Fin 4 → S256.Idx → Elt F .i32) (hX : ∀ r j, (X r j : BitVec 32).toNat < 500000) (T : S1000000.Idx → Elt F .f32) (B : S16.Idx → Elt F .f32)
    (hN : ∀ r, ∑ j, ((rv r).slice (S256.rowRect (gathers_S1000000_S256).axis' j) (S256.stride_rowRect (gathers_S1000000_S256).axis' j)).view.dmaCredit = (rv r).view.dmaCredit)
    (O : CellTallies nD τ sig (HIx 1)) (W : Waits sig (HIx 1)) :
    iprop(Transfers.MayWaits (thr d i) (default : HIx 1) O
        ∗ (bigSep Finset.univ fun r : Fin 4 => iprop(Reads d i a t (q r) (X r) T r ∗ ∃ g, At (F := F) d i (oAt i o r) fullShare g))
        ∗ At d i b qb B
        ∗ (bigSep Finset.univ fun r : Fin 4 => Own (F := F) d i (x r) (ic r) (rv r) (y r) (sx r).sem (sg r).sem)
        ∗ (∃ g, At (F := F) d i bv fullShare g) ∗ semVal (thr d i, SemLoc.dma so.sem) 0 ∗ semVal (thr d i, SemLoc.dma sb.sem) 0 ∗ Owe d i O W)
      ⊢ TWp d i (body i a ha t ht b hb o ho (x 0) (hx 0) (ic 0) (hic 0) (rv 0) (hrv 0) (y 0) (hy 0) (x 1) (hx 1) (ic 1) (hic 1) (rv 1) (hrv 1) (y 1) (hy 1)
          (x 2) (hx 2) (ic 2) (hic 2) (rv 2) (hrv 2) (y 2) (hy 2) (x 3) (hx 3) (ic 3) (hic 3) (rv 3) (hrv 3) (y 3) (hy 3) bv hbv
          (sx 0) (sx 1) (sx 2) (sx 3) so (sg 0) (sg 1) (sg 2) (sg 3) sb)
        fun _ => iprop((bigSep Finset.univ fun r : Fin 4 => iprop(Reads d i a t (q r) (X r) T r ∗ At d i (oAt i o r) fullShare (answersOf X T B r)))
          ∗ At d i b qb B
          ∗ (bigSep Finset.univ fun r : Fin 4 => Own (F := F) d i (x r) (ic r) (rv r) (y r) (sx r).sem (sg r).sem)
          ∗ (∃ g, At (F := F) d i bv fullShare g) ∗ semVal (thr d i, SemLoc.dma so.sem) 0 ∗ semVal (thr d i, SemLoc.dma sb.sem) 0 ∗ Owe d i O W) := by
  rw [← Prog.bind_pure (body _ _ _ _ _ _ _ _ _ _ _ _ _ _ _ _ _ _ _ _ _ _ _ _ _ _ _ _ _ _ _ _ _ _ _ _ _ _ _ _ _ _ _ _ _ _ _ _ _ _ _ _ _)]
  unfold body
  simp only [bigSep_four]
  iintro ⟨#Hmw, ⟨⟨⟨Hx0, Ht0⟩, Ho0⟩, ⟨⟨Hx1, Ht1⟩, Ho1⟩, ⟨⟨Hx2, Ht2⟩, Ho2⟩, ⟨⟨Hx3, Ht3⟩, Ho3⟩⟩, Hb,
    ⟨⟨⟨%g0, Hv0⟩, Hi0, Hr0, Hy0, Hsx0, Hsg0⟩, ⟨⟨%g1, Hv1⟩, Hi1, Hr1, Hy1, Hsx1, Hsg1⟩, ⟨⟨%g2, Hv2⟩, Hi2, Hr2, Hy2, Hsx2, Hsg2⟩, ⟨⟨%g3, Hv3⟩, Hi3, Hr3, Hy3, Hsx3, Hsg3⟩⟩,
    ⟨%gb, Hbv⟩, Hso, Hsb, HO⟩
  simp only [Prog.bind_assoc]
  iapply (wp_copy d i (xAt i a 0) (x 0) (sx 0).sem (q 0) (X 0) g0 (by decide)) $$ [Hx0 Hv0 Hsx0]
  · isplitl [Hx0]; · iexact Hx0
    isplitl [Hv0] <;> iassumption
  iintro Hx0
  iapply (wp_copy d i (xAt i a 1) (x 1) (sx 1).sem (q 1) (X 1) g1 (by decide)) $$ [Hx1 Hv1 Hsx1]
  · isplitl [Hx1]; · iexact Hx1
    isplitl [Hv1] <;> iassumption
  iintro Hx1
  iapply (wp_copy d i (xAt i a 2) (x 2) (sx 2).sem (q 2) (X 2) g2 (by decide)) $$ [Hx2 Hv2 Hsx2]
  · isplitl [Hx2]; · iexact Hx2
    isplitl [Hv2] <;> iassumption
  iintro Hx2
  iapply (wp_copy d i (xAt i a 3) (x 3) (sx 3).sem (q 3) (X 3) g3 (by decide)) $$ [Hx3 Hv3 Hsx3]
  · isplitl [Hx3]; · iexact Hx3
    isplitl [Hv3] <;> iassumption
  iintro Hx3
  iapply (wp_copy d i b bv sb.sem qb B gb (by decide)) $$ [Hb Hbv Hsb]
  · isplitl [Hb]; · iexact Hb
    isplitl [Hbv] <;> iassumption
  iintro Hb
  iapply (wp_fetch d i a t 0 (x 0) (hx 0) (ic 0) (rv 0) (sx 0).sem (sg 0).sem (q 0) (X 0) (hX 0) T _ (hN 0) O W) $$ [Hx0 HO Hi0 Hr0 Ht0 Hsg0]
  · isplitr; · iexact Hmw
    isplitl [Hx0]; · iexact Hx0
    isplitl [HO]; · iexact HO
    isplitl [Hi0]; · iexact Hi0
    isplitl [Hr0]; · iexact Hr0
    isplitl [Ht0] <;> iassumption
  iintro ⟨Hv0, Hx0, Hsx0, HO, Hr0⟩
  iapply (wp_fetch d i a t 1 (x 1) (hx 1) (ic 1) (rv 1) (sx 1).sem (sg 1).sem (q 1) (X 1) (hX 1) T _ (hN 1) O W) $$ [Hx1 HO Hi1 Hr1 Ht1 Hsg1]
  · isplitr; · iexact Hmw
    isplitl [Hx1]; · iexact Hx1
    isplitl [HO]; · iexact HO
    isplitl [Hi1]; · iexact Hi1
    isplitl [Hr1]; · iexact Hr1
    isplitl [Ht1] <;> iassumption
  iintro ⟨Hv1, Hx1, Hsx1, HO, Hr1⟩
  iapply (wp_fetch d i a t 2 (x 2) (hx 2) (ic 2) (rv 2) (sx 2).sem (sg 2).sem (q 2) (X 2) (hX 2) T _ (hN 2) O W) $$ [Hx2 HO Hi2 Hr2 Ht2 Hsg2]
  · isplitr; · iexact Hmw
    isplitl [Hx2]; · iexact Hx2
    isplitl [HO]; · iexact HO
    isplitl [Hi2]; · iexact Hi2
    isplitl [Hr2]; · iexact Hr2
    isplitl [Ht2] <;> iassumption
  iintro ⟨Hv2, Hx2, Hsx2, HO, Hr2⟩
  iapply (wp_fetch d i a t 3 (x 3) (hx 3) (ic 3) (rv 3) (sx 3).sem (sg 3).sem (q 3) (X 3) (hX 3) T _ (hN 3) O W) $$ [Hx3 HO Hi3 Hr3 Ht3 Hsg3]
  · isplitr; · iexact Hmw
    isplitl [Hx3]; · iexact Hx3
    isplitl [HO]; · iexact HO
    isplitl [Hi3]; · iexact Hi3
    isplitl [Hr3]; · iexact Hr3
    isplitl [Ht3] <;> iassumption
  iintro ⟨Hv3, Hx3, Hsx3, HO, Hr3⟩
  iapply (wp_await d i b bv sb.sem _ O W) $$ [Hb HO]
  · isplitr; · iexact Hmw
    isplitl [Hb] <;> iassumption
  iintro ⟨⟨Hbv, Hb⟩, Hsb, HO⟩
  iapply (wp_loadAt d i bv fullShare B) $$ Hbv; iintro Hbv
  rw [window_all]
  imod (Transfers.batch_alloc' (Lvl := ℕ) (countersEmb (U := UU)) (thr d i) (default : HIx 1) (outN i o) (outD d i o y (answersOf X T B)) (sm := .dma so.sem)
    (E := Set.univ)) $$ Hso with Hso
  iapply (wp_finish d i t o 0 (rv 0) (hrv 0) y (hy 0) B (sg 0).sem so.sem _ (answersOf X T B) rfl _ O W) $$ [Hr0 HO Hy0 Ho0 Hso]
  · isplitr; · iexact Hmw
    isplitl [Hr0]; · iexact Hr0
    isplitl [HO]; · iexact HO
    isplitl [Hy0]; · iexact Hy0
    isplitl [Ho0]; · iexact Ho0
    iexact Hso
  iintro ⟨Hr0, ⟨Ht0, Hi0⟩, Hsg0, HO, Hso⟩
  iapply (wp_finish d i t o 1 (rv 1) (hrv 1) y (hy 1) B (sg 1).sem so.sem _ (answersOf X T B) rfl _ O W) $$ [Hr1 HO Hy1 Ho1 Hso]
  · isplitr; · iexact Hmw
    isplitl [Hr1]; · iexact Hr1
    isplitl [HO]; · iexact HO
    isplitl [Hy1]; · iexact Hy1
    isplitl [Ho1]; · iexact Ho1
    iexact Hso
  iintro ⟨Hr1, ⟨Ht1, Hi1⟩, Hsg1, HO, Hso⟩
  iapply (wp_finish d i t o 2 (rv 2) (hrv 2) y (hy 2) B (sg 2).sem so.sem _ (answersOf X T B) rfl _ O W) $$ [Hr2 HO Hy2 Ho2 Hso]
  · isplitr; · iexact Hmw
    isplitl [Hr2]; · iexact Hr2
    isplitl [HO]; · iexact HO
    isplitl [Hy2]; · iexact Hy2
    isplitl [Ho2]; · iexact Ho2
    iexact Hso
  iintro ⟨Hr2, ⟨Ht2, Hi2⟩, Hsg2, HO, Hso⟩
  iapply (wp_finish d i t o 3 (rv 3) (hrv 3) y (hy 3) B (sg 3).sem so.sem _ (answersOf X T B) rfl _ O W) $$ [Hr3 HO Hy3 Ho3 Hso]
  · isplitr; · iexact Hmw
    isplitl [Hr3]; · iexact Hr3
    isplitl [HO]; · iexact HO
    isplitl [Hy3]; · iexact Hy3
    isplitl [Ho3]; · iexact Ho3
    iexact Hso
  iintro ⟨Hr3, ⟨Ht3, Hi3⟩, Hsg3, HO, Hso⟩
  ihave Hso := (Entails.of_eq (show (Transfers.Batch countersEmb (thr d i) (.dma so.sem) (default : HIx 1) (outN i o) (outD d i o y (answersOf X T B)) ((3 : Fin 4).val + 1) 0 : sProp 𝕄)
      = Transfers.Batch countersEmb (thr d i) (.dma so.sem) (default : HIx 1) (outN i o) (outD d i o y (answersOf X T B)) 4 ((0 : Fin 4).val * outN i o) from by
    rw [show (0 : Fin 4).val * outN i o = 0 from Nat.zero_mul _]; rfl)) $$ Hso
  iapply (wp_drain d i o 0 y (hy 0) so.sem (answersOf X T B) (by decide) O W) $$ [HO Hso]
  · isplitr; · iexact Hmw
    isplitl [HO] <;> iassumption
  iintro ⟨HO, Hso⟩
  iapply (wp_drain d i o 1 y (hy 1) so.sem (answersOf X T B) (by decide) O W) $$ [HO Hso]
  · isplitr; · iexact Hmw
    isplitl [HO]; · iexact HO
    iexact Hso
  iintro ⟨HO, Hso⟩
  iapply (wp_drain d i o 2 y (hy 2) so.sem (answersOf X T B) (by decide) O W) $$ [HO Hso]
  · isplitr; · iexact Hmw
    isplitl [HO]; · iexact HO
    iexact Hso
  iintro ⟨HO, Hso⟩
  iapply (wp_drainLast d i o y (hy 3) so.sem (answersOf X T B) O W) $$ [HO Hso]
  · isplitr; · iexact Hmw
    isplitl [HO]; · iexact HO
    iexact Hso
  rw [outD_four]
  iintro ⟨HO, ⟨⟨Ho0, Hy0⟩, ⟨Ho1, Hy1⟩, ⟨Ho2, Hy2⟩, ⟨Ho3, Hy3⟩⟩, Hso⟩
  iapply (wp_done d i)
  isplitl [Hx0 Ht0 Ho0 Hx1 Ht1 Ho1 Hx2 Ht2 Ho2 Hx3 Ht3 Ho3]
  · isplitl [Hx0 Ht0 Ho0]
    · isplitl [Hx0 Ht0]; · isplitl [Hx0] <;> iassumption
      iexact Ho0
    isplitl [Hx1 Ht1 Ho1]
    · isplitl [Hx1 Ht1]; · isplitl [Hx1] <;> iassumption
      iexact Ho1
    isplitl [Hx2 Ht2 Ho2]
    · isplitl [Hx2 Ht2]; · isplitl [Hx2] <;> iassumption
      iexact Ho2
    isplitl [Hx3 Ht3]; · isplitl [Hx3] <;> iassumption
    iexact Ho3
  isplitl [Hb]; · iexact Hb
  isplitl [Hv0 Hi0 Hr0 Hy0 Hsx0 Hsg0 Hv1 Hi1 Hr1 Hy1 Hsx1 Hsg1 Hv2 Hi2 Hr2 Hy2 Hsx2 Hsg2 Hv3 Hi3 Hr3 Hy3 Hsx3 Hsg3]
  · isplitl [Hv0 Hi0 Hr0 Hy0 Hsx0 Hsg0]
    · isplitl [Hv0]; · iexists _; iexact Hv0
      isplitl [Hi0]; · iexists _; iexact Hi0
      isplitl [Hr0]; · iexists _; iexact Hr0
      isplitl [Hy0]; · iexists _; iexact Hy0
      isplitl [Hsx0] <;> iassumption
    isplitl [Hv1 Hi1 Hr1 Hy1 Hsx1 Hsg1]
    · isplitl [Hv1]; · iexists _; iexact Hv1
      isplitl [Hi1]; · iexists _; iexact Hi1
      isplitl [Hr1]; · iexists _; iexact Hr1
      isplitl [Hy1]; · iexists _; iexact Hy1
      isplitl [Hsx1] <;> iassumption
    isplitl [Hv2 Hi2 Hr2 Hy2 Hsx2 Hsg2]
    · isplitl [Hv2]; · iexists _; iexact Hv2
      isplitl [Hi2]; · iexists _; iexact Hi2
      isplitl [Hr2]; · iexists _; iexact Hr2
      isplitl [Hy2]; · iexists _; iexact Hy2
      isplitl [Hsx2] <;> iassumption
    isplitl [Hv3]; · iexists _; iexact Hv3
    isplitl [Hi3]; · iexists _; iexact Hi3
    isplitl [Hr3]; · iexists _; iexact Hr3
    isplitl [Hy3]; · iexists _; iexact Hy3
    isplitl [Hsx3] <;> iassumption
  isplitl [Hbv]; · iexists _; iexact Hbv
  isplitl [Hso]; · iexact Hso
  isplitl [Hsb] <;> iassumption

end Cert.Proof.K
end
-- ==== Proof.BodyEq.lean ====
module

public import proofs.«01_k».proof.Proof.Body
@[expose] public section
noncomputable section
namespace Cert.Proof.K
open Cert.KernelIdeal Facts₀ Facts
open Idealize.ShloMosaic Idealize.SL.Sem
variable {F : FTy → Type} [FloatOps F]
set_option maxRecDepth 65536
set_option maxHeartbeats 400000
/-- The printed body is the structured one. -/
theorem body_eq (i : grid0.Coords) (arg2 : Memref sig .scVector .hbm S32768 .i32) (harg2 : arg2.IsWhole) (arg3 : Memref sig .scVector .hbm S1000000 .f32) (harg3 : arg3.IsWhole) (arg4 : Memref sig .scVector .hbm S16 .f32) (harg4 : arg4.IsWhole) (arg5 : Memref sig .scVector .hbm S16384 .f32) (harg5 : arg5.IsWhole) (arg6 : Memref sig .scVector .vmem S256 .i32) (harg6 : arg6.IsWhole) (arg7 : Memref sig .scVector .vmem S256 .i32) (harg7 : arg7.IsWhole) (arg8 : Memref sig .scVector .vmem S256 .f32) (harg8 : arg8.IsWhole) (arg9 : Memref sig .scVector .vmem S128 .f32) (harg9 : arg9.IsWhole) (arg10 : Memref sig .scVector .vmem S256 .i32) (harg10 : arg10.IsWhole) (arg11 : Memref sig .scVector .vmem S256 .i32) (harg11 : arg11.IsWhole) (arg12 : Memref sig .scVector .vmem S256 .f32) (harg12 : arg12.IsWhole) (arg13 : Memref sig .scVector .vmem S128 .f32) (harg13 : arg13.IsWhole) (arg14 : Memref sig .scVector .vmem S256 .i32) (harg14 : arg14.IsWhole) (arg15 : Memref sig .scVector .vmem S256 .i32) (harg15 : arg15.IsWhole) (arg16 : Memref sig .scVector .vmem S256 .f32) (harg16 : arg16.IsWhole) (arg17 : Memref sig .scVector .vmem S128 .f32) (harg17 : arg17.IsWhole) (arg18 : Memref sig .scVector .vmem S256 .i32) (harg18 : arg18.IsWhole) (arg19 : Memref sig .scVector .vmem S256 .i32) (harg19 : arg19.IsWhole) (arg20 : Memref sig .scVector .vmem S256 .f32) (harg20 : arg20.IsWhole) (arg21 : Memref sig .scVector .vmem S128 .f32) (harg21 : arg21.IsWhole) (arg22 : Memref sig .scVector .vmem S16 .f32) (harg22 : arg22.IsWhole) (arg23 : DmaSems sig S_) (arg24 : DmaSems sig S_) (arg25 : DmaSems sig S_) (arg26 : DmaSems sig S_) (arg27 : DmaSems sig S_) (arg28 : DmaSems sig S_) (arg29 : DmaSems sig S_) (arg30 : DmaSems sig S_) (arg31 : DmaSems sig S_) (arg32 : DmaSems sig S_) :
   cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 = body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 := by
  simp only [cc0__body, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, SparseCore.vectorLoadIdx, SparseCore.enqueueIndirectGather, SparseCore.waitIndirectGather,
    Prog.bind_ret, Prog.bind_op, Prog.bind_lift, Prog.pure_eq_ret]
  simp only [body, fetch, finish, startX, drain, indices, answers, deint, answer, readAt, SparseCore.vectorLoadIdx, SparseCore.enqueueIndirectGather, SparseCore.waitIndirectGather,
    Prog.bind_ret, Prog.bind_op, Prog.bind_lift, Prog.pure_eq_ret]
  rfl
end Cert.Proof.K
end
-- ==== Proof.Tile.lean ====
/-
  The kernel's task on one tile (`tile_body`), at a symbolic pair of SparseCore and subcore: what it is handed (the
  pieces of its four chunks) and what it hands back (the same, each chunk of the result at its values).
-/
module

public import proofs.«01_k».proof.Proof.Run
public import proofs.«01_k».proof.Proof.BodyEq
public import Idealize.ShloMosaic.Lib.ShareLeaves
public import proofs.«01_k».proof.Proof.Gen.KernelIdeal

@[expose] public section

noncomputable section

namespace Cert.Proof.K

open Cert.KernelIdeal Facts₀ Facts
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## The buffers and what they hold -/

abbrev xLoc (d : Dev nD) : Loc nD τ sig := (SparseCore.T d).loc main_v0
abbrev tLoc (d : Dev nD) : Loc nD τ sig := (SparseCore.T d).loc main_v1
abbrev bLoc (d : Dev nD) : Loc nD τ sig := (SparseCore.T d).loc main_v2
abbrev oLoc (d : Dev nD) : Loc nD τ sig := (SparseCore.T d).loc main_v3

abbrev xV : Memref sig .scVector .hbm S32768 .i32 := Memref.whole main_v0_scv
abbrev tV : Memref sig .scVector .hbm S1000000 .f32 := Memref.whole main_v1_scv
abbrev bV : Memref sig .scVector .hbm S16 .f32 := Memref.whole main_v2_scv
abbrev oV : Memref sig .scVector .hbm S16384 .f32 := Memref.whole main_v3_scv

/-- Word `k` of pair `j` of the flat argument. -/
abbrev pairIx (j : S16384.Idx) (k : Fin 2) : S32768.Idx := fun a => match a with
  | 0 => ⟨2 * (j 0).val + k.val, by have := (j 0).isLt; change (j 0).val < 16384 at this; show _ < 32768; omega⟩

/-- The result: for each pair, the two rows that its words name, added, and the bias. -/
def answer1 (x : S32768.Idx → BitVec 32) (t : S1000000.Idx → Elt F .f32) (b : S16.Idx → Elt F .f32) : S16384.Idx → Elt F .f32 := fun j =>
  FloatOps.addf (FloatOps.addf (t (tabIx (x (pairIx j 0)))) (t (tabIx (x (pairIx j 1) + 500000#32)))) (b (lane ((j 0).val % 16) (Nat.mod_lt _ (by decide))))

/-! ## Chunks -/

theorem odiv : 128 ∣ S16384.size 0 := ⟨128, rfl⟩
/-- Chunk `n` of the result: 128 elements. -/
abbrev oSet (n : Fin 128) : Finset S16384.Idx := (Rect.part (s := S16384) (a₀ := 0) odiv n).set
/-- The chunk's share of what every tile reads: one of 128 leaves of the whole. -/
abbrev share (n : Fin 128) : PosShare TreeShare := ShareLeaves.leaf 7 fullShare n

/-- The number of chunk `r` of the tile at subcore `s` of SparseCore `c`. -/
abbrev num (c : Fin 2) (s : Fin 16) (r : Fin 4) : Fin 128 := ⟨(s.val * 2 + c.val) * 4 + r.val, by omega⟩

variable (fx : (d : Dev nD) → Buf (Elt F) (xLoc d)) (ft : (d : Dev nD) → Buf (Elt F) (tLoc d)) (fb : (d : Dev nD) → Buf (Elt F) (bLoc d))

/-- A chunk's resources: its shares of the three operands, and its elements of the result, at `g`'s values. -/
abbrev Chunk (d : Dev nD) (g : Buf (Elt F) (oLoc d)) (n : Fin 128) : sProp 𝕄 :=
  iprop((xLoc d ↦{share n} fx d) ∗ (tLoc d ↦{share n} ft d) ∗ (bLoc d ↦{share n} fb d) ∗ oLoc d ↦[oSet n]{fullShare} g)

abbrev cI (i : grid0.Coords) : Fin 2 := i 0
abbrev sI (i : grid0.Coords) : Fin 16 := i 1

theorem set_oAt (i : grid0.Coords) (r : Fin 4) : (oAt i oV r).view.set = oSet (num (cI i) (sI i) r) := by
  show ((View.whole (main_v3_scv : Ref sig .scVector)).slice _).set = _
  rw [View.set_slice]
  refine (Finset.map_refl).trans ?_
  unfold oSet Rect.part Rect.block
  refine congrArg (fun r : Rect S16384 => r.set) ?_
  congr 1 <;> funext a
  · rw [Gen.k0_off5_eq]
    match a with
    | 0 => simp [Shape.partIx, Shape.partSize]; ring
  · match a with
    | 0 => simp [Shape.partSize]

/-! ## A tile's view of its chunks -/

/-- A whole buffer held, as the tile addresses it. -/
theorem at_whole (d : Dev nD) (i : grid0.Coords) (b : Ref sig .scVector) (q : PosShare TreeShare) (f : Buf (Elt F) ((thr d i).loc b)) :
    At (F := F) d i (Memref.whole b) q f = ((thr d i).loc b ↦{q} f : sProp 𝕄) := by
  have h := pointsTo_rep (Ix := HIx 1) (Name := ℕ) (U := UU) (Lvl := ℕ) (thr d i) (Memref.whole b) f q
  rw [show (Memref.whole b).view.set = Finset.univ from View.set_whole b] at h
  show ((thr d i).loc b ↦[(Memref.whole b).view.set]{q} _ : sProp 𝕄) = _
  rw [show (Memref.whole b).view.set = Finset.univ from View.set_whole b]
  exact h.symm

/-- A part of a buffer taken out of it, at what the buffer holds there, and the rest. -/
theorem take_part (d : Dev nD) (i : grid0.Coords) {s : Shape} {e : EltTy} (m : Memref sig .scVector .hbm s e) (q : PosShare TreeShare) (f : Buf (Elt F) (m.view.loc (thr d i))) :
    (m.view.loc (thr d i) ↦{q} f : sProp 𝕄) = iprop(At d i m q (m.view.read (Elt F) f) ∗ m.view.loc (thr d i) ↦[Finset.univ \ m.view.set]{q} f) := by
  have h := pointsTo_split_subset (Ix := HIx 1) (Name := ℕ) (U := UU) (Lvl := ℕ) (q := q) (f := f) (S := Finset.univ) (Finset.subset_univ m.view.set)
  rw [BI.Entails.antisymm h.1 h.2, pointsTo_rep (thr d i) m f q]

/-- Chunk `r`'s words, the table and the bias, as the tile reads them. -/
abbrev words (d : Dev nD) (i : grid0.Coords) (r : Fin 4) : S256.Idx → Elt F .i32 := (xAt i xV r).view.read (Elt F) (fx d)
abbrev table (d : Dev nD) : S1000000.Idx → Elt F .f32 := (tAt tV).view.read (Elt F) (ft d)

/-- What of a chunk's shares the tile does not touch. -/
def untouched (d : Dev nD) (i : grid0.Coords) (r : Fin 4) : sProp 𝕄 :=
  iprop((xLoc d ↦[Finset.univ \ (xAt i xV r).view.set]{share (num (cI i) (sI i) r)} fx d)
    ∗ tLoc d ↦[Finset.univ \ (tAt tV).view.set]{share (num (cI i) (sI i) r)} ft d)

/-- A chunk's resources as the tile addresses them. -/
theorem chunk_eq (d : Dev nD) (i : grid0.Coords) (g : Buf (Elt F) (oLoc d)) (r : Fin 4) :
    Chunk fx ft fb d g (num (cI i) (sI i) r)
      = iprop((Reads d i xV tV (share (num (cI i) (sI i) r)) (words fx d i r) (table ft d) r ∗ At d i (oAt i oV r) fullShare ((oAt i oV r).view.read (Elt F) g))
          ∗ At (F := F) d i bV (share (num (cI i) (sI i) r)) (fb d) ∗ untouched fx ft d i r) := by
  have hx : (xLoc d ↦{share (num (cI i) (sI i) r)} fx d : sProp 𝕄) = _ := take_part d i (xAt i xV r) _ (fx d)
  have ht : (tLoc d ↦{share (num (cI i) (sI i) r)} ft d : sProp 𝕄) = _ := take_part d i (tAt tV) _ (ft d)
  have ho : (oLoc d ↦[oSet (num (cI i) (sI i) r)]{fullShare} g : sProp 𝕄) = At d i (oAt i oV r) fullShare ((oAt i oV r).view.read (Elt F) g) := by
    rw [← set_oAt]; exact pointsTo_rep (thr d i) (oAt i oV r) g fullShare
  have hb : At (F := F) d i bV (share (num (cI i) (sI i) r)) (fb d) = (bLoc d ↦{share (num (cI i) (sI i) r)} fb d : sProp 𝕄) := at_whole d i main_v2_scv _ (fb d)
  unfold Chunk
  rw [hx, ht, ho, hb]
  refine BI.Entails.antisymm ?_ ?_
  · show (_ : sProp 𝕄) ⊢ _
    iintro ⟨⟨Hx, Hx'⟩, ⟨Ht, Ht'⟩, Hb, Ho⟩
    isplitl [Hx Ht Ho]
    · isplitl [Hx Ht]
      · isplitl [Hx]; · iexact Hx
        iexact Ht
      iexact Ho
    isplitl [Hb]; · iexact Hb
    unfold untouched
    isplitl [Hx']; · iexact Hx'
    iexact Ht'
  · unfold untouched
    show (_ : sProp 𝕄) ⊢ _
    iintro ⟨⟨⟨Hx, Ht⟩, Ho⟩, Hb, Hx', Ht'⟩
    isplitl [Hx Hx']
    · isplitl [Hx]; · iexact Hx
      iexact Hx'
    isplitl [Ht Ht']
    · isplitl [Ht]; · iexact Ht
      iexact Ht'
    isplitl [Hb]; · iexact Hb
    iexact Ho

/-- What the tile computes for chunk `r` is that chunk of the result. -/
theorem read_answer (d : Dev nD) (i : grid0.Coords) (r : Fin 4) :
    (oAt i oV r).view.read (Elt F) (answer1 (fx d) (ft d) (fb d)) = answersOf (words fx d i) (table ft d) (fb d) r := by
  have hc : (i 0).val < 2 := (i 0).isLt
  have hs : (i 1).val < 16 := (i 1).isLt
  have h1 : k0_off1 i (BitVec.ofNat 32 (128 * r.val)) 0 = 2048 * (i 1).val + 1024 * (i 0).val + 256 * r.val := by rw [Gen.k0_off1_eq]; rfl
  have h5 : k0_off5 i (BitVec.ofNat 32 (128 * r.val)) 0 = 1024 * (i 1).val + 512 * (i 0).val + 128 * r.val := by rw [Gen.k0_off5_eq]; rfl
  have hT : table ft d = ft d := by
    funext j
    show (ft d) _ = ft d j
    congr 1; funext a; match a with
    | 0 => exact Fin.ext (by show 0 + 1 * (j 0).val = (j 0).val; omega)
  funext j
  have hj : (j 0).val < 128 := (j 0).isLt
  have hX : ∀ (n : ℕ) (hn : n < 256) (k : Fin 2) (J : S16384.Idx), 2 * (J 0).val + k.val = k0_off1 i (BitVec.ofNat 32 (128 * r.val)) 0 + n →
      words fx d i r (at256 n hn) = fx d (pairIx J k) := by
    intro n hn k J h
    show (fx d) _ = _
    congr 1; funext a; match a with
    | 0 => exact Fin.ext (by show k0_off1 i (BitVec.ofNat 32 (128 * r.val)) 0 + 1 * n = 2 * (J 0).val + k.val; omega)
  have hJ : (((oAt i oV r).view.emb j) 0).val = k0_off5 i (BitVec.ofNat 32 (128 * r.val)) 0 + (j 0).val := by
    show k0_off5 i (BitVec.ofNat 32 (128 * r.val)) 0 + 1 * (j 0).val = _; omega
  show answer1 (fx d) (ft d) (fb d) ((oAt i oV r).view.emb j) = _
  generalize (oAt i oV r).view.emb j = J at hJ
  unfold answersOf sums gathered answer1
  rw [hT]
  have hlo : list (words fx d i r) (at256 (j 0).val (by omega)) = fx d (pairIx J 0) := by
    unfold list
    rw [dif_pos (show ((at256 (j 0).val (by omega)) 0).val < 128 from hj)]
    exact hX _ _ _ _ (by show 2 * (J 0).val + 0 = _ + 2 * (j 0).val; omega)
  have hhi : list (words fx d i r) (at256 (128 + (j 0).val) (by omega)) = HAdd.hAdd (α := BitVec 32) (β := BitVec 32) (fx d (pairIx J 1)) 500000#32 := by
    unfold list
    rw [dif_neg (show ¬ ((at256 (128 + (j 0).val) (by omega)) 0).val < 128 from by show ¬ (128 + (j 0).val < 128); omega)]
    congr 1
    exact hX _ _ _ _ (by show 2 * (J 0).val + 1 = _ + (2 * (128 + (j 0).val - 128) + 1); omega)
  rw [hlo, hhi]
  congr 2
  funext a; match a with
  | 0 => exact Fin.ext (by show (J 0).val % 16 = (j 0).val % 16; omega)

end Cert.Proof.K
end
-- ==== Proof.Task.lean ====
/-
  The task on one tile (`tile_body`): from the pieces of its four chunks and its own scratch buffers and semaphores, the
  kernel's body leaves each chunk of the result at its values and gives everything else back.
-/
module

public import proofs.«01_k».proof.Proof.Tile

@[expose] public section

noncomputable section

namespace Cert.Proof.K

open Cert.KernelIdeal Facts₀ Facts
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## The tile's own buffers and semaphores, by chunk -/

abbrev xM : Fin 4 → Memref sig .scVector .vmem S256 .i32
  | 0 => Memref.whole cc0_scratch0 | 1 => Memref.whole cc0_scratch4 | 2 => Memref.whole cc0_scratch8 | 3 => Memref.whole cc0_scratch12
abbrev icM : Fin 4 → Memref sig .scVector .vmem S256 .i32
  | 0 => Memref.whole cc0_scratch1 | 1 => Memref.whole cc0_scratch5 | 2 => Memref.whole cc0_scratch9 | 3 => Memref.whole cc0_scratch13
abbrev rM : Fin 4 → Memref sig .scVector .vmem S256 .f32
  | 0 => Memref.whole cc0_scratch2 | 1 => Memref.whole cc0_scratch6 | 2 => Memref.whole cc0_scratch10 | 3 => Memref.whole cc0_scratch14
abbrev yM : Fin 4 → Memref sig .scVector .vmem S128 .f32
  | 0 => Memref.whole cc0_scratch3 | 1 => Memref.whole cc0_scratch7 | 2 => Memref.whole cc0_scratch11 | 3 => Memref.whole cc0_scratch15
abbrev sxM : Fin 4 → DmaSems sig S_
  | 0 => cc0_scratch17 | 1 => cc0_scratch18 | 2 => cc0_scratch19 | 3 => cc0_scratch20
abbrev sgM : Fin 4 → DmaSems sig S_
  | 0 => cc0_scratch22 | 1 => cc0_scratch23 | 2 => cc0_scratch24 | 3 => cc0_scratch25

theorem xM_whole (r : Fin 4) : (xM r).IsWhole := match r with
  | 0 => Memref.isWhole_whole _ | 1 => Memref.isWhole_whole _ | 2 => Memref.isWhole_whole _ | 3 => Memref.isWhole_whole _
theorem icM_whole (r : Fin 4) : (icM r).IsWhole := match r with
  | 0 => Memref.isWhole_whole _ | 1 => Memref.isWhole_whole _ | 2 => Memref.isWhole_whole _ | 3 => Memref.isWhole_whole _
theorem rM_whole (r : Fin 4) : (rM r).IsWhole := match r with
  | 0 => Memref.isWhole_whole _ | 1 => Memref.isWhole_whole _ | 2 => Memref.isWhole_whole _ | 3 => Memref.isWhole_whole _
theorem yM_whole (r : Fin 4) : (yM r).IsWhole := match r with
  | 0 => Memref.isWhole_whole _ | 1 => Memref.isWhole_whole _ | 2 => Memref.isWhole_whole _ | 3 => Memref.isWhole_whole _

/-- Buffer `k` of chunk `r`, and the bias's. -/
def bufOf : Fin 4 × Fin 4 ⊕ Fin 1 → Ref sig .scVector
  | .inl (0, 0) => cc0_scratch0 | .inl (0, 1) => cc0_scratch1 | .inl (0, 2) => cc0_scratch2 | .inl (0, 3) => cc0_scratch3
  | .inl (1, 0) => cc0_scratch4 | .inl (1, 1) => cc0_scratch5 | .inl (1, 2) => cc0_scratch6 | .inl (1, 3) => cc0_scratch7
  | .inl (2, 0) => cc0_scratch8 | .inl (2, 1) => cc0_scratch9 | .inl (2, 2) => cc0_scratch10 | .inl (2, 3) => cc0_scratch11
  | .inl (3, 0) => cc0_scratch12 | .inl (3, 1) => cc0_scratch13 | .inl (3, 2) => cc0_scratch14 | .inl (3, 3) => cc0_scratch15
  | .inr _ => cc0_scratch16
/-- The semaphores of chunk `r`'s copy in and of its indexed copy, and those of the copies out and of the bias. -/
def semOf : Fin 4 × Fin 2 ⊕ Fin 2 → DmaSem sig
  | .inl (r, 0) => (sxM r).sem | .inl (r, 1) => (sgM r).sem | .inr 0 => cc0_scratch21.sem | .inr 1 => cc0_scratch26.sem

theorem bufOf_injective : Function.Injective bufOf := by decide
theorem semOf_injective : Function.Injective semOf := by decide

theorem bufOf_owner (c : Fin τ.nSC) (s : Fin τ.nSub) (j : Fin 4 × Fin 4 ⊕ Fin 1) : ((Proc.scVector (τ := τ) c s).devRef (bufOf j)).owner = .proc (.scVector c s) := by
  rcases j with ⟨r, k⟩ | r <;> fin_cases r <;> (try fin_cases k) <;> rfl
theorem semOf_scoped : ∀ j, (SemLoc.dma (semOf j) : SemLoc sig).isScoped .scVector = true := by decide

omit [FloatOps F] [∀ e, Nonempty (Elt F e)] in
/-- A family of things among others: they, and the others. -/
theorem bigSep_family {I J : Type} [Fintype J] [DecidableEq I] (φ : J ↪ I) (s : Finset I) (h : ∀ j, φ j ∈ s) (Φ : I → sProp 𝕄) :
    bigSep s Φ = iprop((bigSep Finset.univ fun j => Φ (φ j)) ∗ bigSep (s \ Finset.univ.map φ) Φ) := by
  rw [bigSep_sdiff_split (show Finset.univ.map φ ⊆ s from fun i hi => by obtain ⟨j, -, rfl⟩ := Finset.mem_map.mp hi; exact h j), bigSep_map]
  rfl

omit [FloatOps F] [∀ e, Nonempty (Elt F e)] in
theorem sep_flat (A B C : sProp 𝕄) : iprop((A ∗ B) ∗ C) = iprop(A ∗ B ∗ C) := by
  refine BI.Entails.antisymm ?_ ?_ <;> show (_ : sProp 𝕄) ⊢ _
  · exact sep_assoc.1
  · exact sep_assoc.2

abbrev bufEmb (i : grid0.Coords) : Fin 4 × Fin 4 ⊕ Fin 1 ↪ DevRef τ sig :=
  ⟨fun j => (Proc.scVector (cV i) (jV i)).devRef (bufOf j), fun _ _ h => bufOf_injective (Proc.devRef_injective _ h)⟩
abbrev semEmb (d : Dev nD) (i : grid0.Coords) : Fin 4 × Fin 2 ⊕ Fin 2 ↪ GSem nD τ sig :=
  ⟨fun j => (thr d i, .dma (semOf j)), fun a b h => semOf_injective (by injection h with h1 h2; injection h2)⟩

/-- The tile's other buffers and semaphores. -/
def otherBufs (d : Dev nD) (i : grid0.Coords) : sProp 𝕄 :=
  bigSep (ownRefs (τ := τ) (.scVector (cV i) (jV i)) \ Finset.univ.map (bufEmb i)) fun b => iprop(∃ f, ((d, b) : Loc nD τ sig) ↦{fullShare} f)
def otherSems (d : Dev nD) (i : grid0.Coords) : sProp 𝕄 :=
  bigSep (ownCells (thr d i) \ Finset.univ.map (semEmb d i)) fun g => semVal g 0

/-- A chunk's four buffers, at whatever they hold. -/
theorem bufs_eq (d : Dev nD) (i : grid0.Coords) (r : Fin 4) :
    (bigSep Finset.univ fun k : Fin 4 => iprop(∃ f, ((thr d i).loc (bufOf (.inl (r, k))) : Loc nD τ sig) ↦{fullShare} f) : sProp 𝕄)
      = iprop((∃ g, At (F := F) d i (xM r) fullShare g) ∗ (∃ g, At (F := F) d i (icM r) fullShare g) ∗ (∃ g, At (F := F) d i (rM r) fullShare g)
          ∗ ∃ g, At (F := F) d i (yM r) fullShare g) := by
  have h : ∀ b : Ref sig .scVector, (iprop(∃ f, ((thr d i).loc b : Loc nD τ sig) ↦{fullShare} f) : sProp 𝕄) = iprop(∃ g, At (F := F) d i (Memref.whole b) fullShare g) :=
    fun b => congrArg BI.BIBase.exists (funext fun f => (at_whole d i b fullShare f).symm)
  rw [bigSep_four, h, h, h, h]
  match r with
  | 0 => rfl
  | 1 => rfl
  | 2 => rfl
  | 3 => rfl

/-- The tile's own buffers: each chunk's four, the bias's, and the others. -/
theorem ownBufs_eq (d : Dev nD) (i : grid0.Coords) :
    (ownBufs (thr d i) : sProp 𝕄)
      = iprop((bigSep Finset.univ fun r : Fin 4 => iprop((∃ g, At (F := F) d i (xM r) fullShare g) ∗ (∃ g, At (F := F) d i (icM r) fullShare g)
          ∗ (∃ g, At (F := F) d i (rM r) fullShare g) ∗ ∃ g, At (F := F) d i (yM r) fullShare g))
        ∗ (∃ g, At (F := F) d i (Memref.whole cc0_scratch16) fullShare g) ∗ otherBufs d i) := by
  have hb : (iprop(∃ f, ((thr d i).loc (bufOf (.inr 0)) : Loc nD τ sig) ↦{fullShare} f) : sProp 𝕄) = iprop(∃ g, At (F := F) d i (Memref.whole cc0_scratch16) fullShare g) :=
    congrArg BI.BIBase.exists (funext fun f => (at_whole d i cc0_scratch16 fullShare f).symm)
  have hr := funext (bufs_eq (F := F) d i)
  rw [← hr, ← hb]
  unfold SparseCore.Cfg.ownBufs otherBufs
  rw [bigSep_family (bufEmb i) _ (fun j => SparseCore.Cfg.mem_ownRefs_of_owner (p := Proc.scVector (cV i) (jV i)) (bufOf_owner (cV i) (jV i) j)),
    bigSep_univ_sum, bigSep_univ_prod, bigSep_univ_of_subsingleton (I := Fin 1) 0]
  exact sep_flat _ _ _

/-- Its own semaphores: each chunk's two, the copies out's, the bias's, and the others. -/
theorem ownSems_eq (d : Dev nD) (i : grid0.Coords) :
    (ownSems0 (thr d i) : sProp 𝕄)
      = iprop((bigSep Finset.univ fun r : Fin 4 => iprop(semVal (thr d i, SemLoc.dma (sxM r).sem) 0 ∗ semVal (thr d i, SemLoc.dma (sgM r).sem) 0))
        ∗ (semVal (thr d i, SemLoc.dma cc0_scratch21.sem) 0 ∗ semVal (thr d i, SemLoc.dma cc0_scratch26.sem) 0) ∗ otherSems d i) := by
  unfold SparseCore.Cfg.ownSems0 otherSems
  rw [bigSep_family (semEmb d i) _ (fun j => mem_ownCells.mpr ⟨rfl, semOf_scoped j⟩), bigSep_univ_sum, bigSep_univ_prod, bigSep_fin_two]
  simp only [bigSep_fin_two]
  exact sep_flat _ _ _

theorem at_some (d : Dev nD) (i : grid0.Coords) {sp : Space} {s : Shape} {e : EltTy} (m : Memref sig .scVector sp s e) (q : PosShare TreeShare) (X : s.Idx → Elt F e) :
    At d i m q X ⊢ iprop(∃ g, At (F := F) d i m q g) := by
  iintro H; iexists _; iexact H

/-- A chunk's own things: its buffers, and its semaphores. -/
theorem own_eq (d : Dev nD) (i : grid0.Coords) (x ic : Memref sig .scVector .vmem S256 .i32) (rv : Memref sig .scVector .vmem S256 .f32)
    (y : Memref sig .scVector .vmem S128 .f32) (sx sg : DmaSem sig) :
    Own (F := F) d i x ic rv y sx sg = iprop(((∃ g, At (F := F) d i x fullShare g) ∗ (∃ g, At (F := F) d i ic fullShare g) ∗ (∃ g, At (F := F) d i rv fullShare g)
      ∗ ∃ g, At (F := F) d i y fullShare g) ∗ semVal (thr d i, SemLoc.dma sx) 0 ∗ semVal (thr d i, SemLoc.dma sg) 0) := by
  refine BI.Entails.antisymm ?_ ?_ <;> show (_ : sProp 𝕄) ⊢ _
  · iintro ⟨H1, H2, H3, H4, H5, H6⟩
    isplitl [H1 H2 H3 H4]
    · isplitl [H1]; · iexact H1
      isplitl [H2]; · iexact H2
      isplitl [H3] <;> iassumption
    isplitl [H5] <;> iassumption
  · iintro ⟨⟨H1, H2, H3, H4⟩, H5, H6⟩
    isplitl [H1]; · iexact H1
    isplitl [H2]; · iexact H2
    isplitl [H3]; · iexact H3
    isplitl [H4]; · iexact H4
    isplitl [H5] <;> iassumption

/-! ## The task -/

abbrev ΛP : Labels := Pipeline.Sig Λ₀ (Fin 0) fun p => (pcfgs (F := F) p).Adm
/-- The program's SparseCore call. -/
abbrev Kc : SparseCore.Cfg τ sig (ΛP (F := F)) 1 := sc (F := F)

variable (fx : (d : Dev nD) → Buf (Elt F) (xLoc d)) (ft : (d : Dev nD) → Buf (Elt F) (tLoc d)) (fb : (d : Dev nD) → Buf (Elt F) (bLoc d))

/-- What the call computes on device `d`. -/
abbrev result (d : Dev nD) : Buf (Elt F) (oLoc d) := answer1 (fx d) (ft d) (fb d)

theorem chunks_eq (d : Dev nD) (i : grid0.Coords) (g : Buf (Elt F) (oLoc d)) :
    (bigSep Finset.univ fun r : Fin 4 => Chunk fx ft fb d g (num (cI i) (sI i) r))
      = iprop((bigSep Finset.univ fun r : Fin 4 => iprop(Reads d i xV tV (share (num (cI i) (sI i) r)) (words fx d i r) (table ft d) r
            ∗ At d i (oAt i oV r) fullShare ((oAt i oV r).view.read (Elt F) g)))
          ∗ (bigSep Finset.univ fun r : Fin 4 => At (F := F) d i bV (share (num (cI i) (sI i) r)) (fb d))
          ∗ bigSep Finset.univ fun r : Fin 4 => untouched fx ft d i r) := by
  rw [show (fun r : Fin 4 => Chunk fx ft fb d g (num (cI i) (sI i) r)) = _ from funext fun r => chunk_eq fx ft fb d i g r, bigSep_sep', bigSep_sep', bigSep_sep', bigSep_sep']

set_option maxHeartbeats 4000000 in
/-- The task on the tile at `i`: its chunks' resources and its own, to the same with the result's chunks at their values. -/
theorem tile_body (hF : (Kc (F := F)).Facts) (hfx : ∀ d w, (fx d w : BitVec 32).toNat < 500000) (d : Dev nD) (i : grid0.Coords) (fo : Buf (Elt F) (oLoc d))
    (O : CellTallies nD τ sig (HIx 1)) (W : Waits sig (HIx 1)) (hO : ∀ g, O g none = 0) :
    iprop(levAts (Kc (F := F)).L (Kc (F := F)).lev ∗ emp
        ∗ (bigSep Finset.univ fun r : Fin 4 => Chunk fx ft fb d fo (num (cI i) (sI i) r))
        ∗ scopedBufs (thr d i) ∗ scopedSems0 (thr d i) ∗ owes (thr d i) O W)
      ⊢ wp frame (wpE (defs₀ (F := F)) 𝒱₀ (thr d i) none) Set.univ
          (cc0__body i xV (Memref.isWhole_whole _) tV (Memref.isWhole_whole _) bV (Memref.isWhole_whole _) oV (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            (Memref.whole cc0_scratch4) (Memref.isWhole_whole _) (Memref.whole cc0_scratch5) (Memref.isWhole_whole _) (Memref.whole cc0_scratch6) (Memref.isWhole_whole _) (Memref.whole cc0_scratch7) (Memref.isWhole_whole _)
            (Memref.whole cc0_scratch8) (Memref.isWhole_whole _) (Memref.whole cc0_scratch9) (Memref.isWhole_whole _) (Memref.whole cc0_scratch10) (Memref.isWhole_whole _) (Memref.whole cc0_scratch11) (Memref.isWhole_whole _)
            (Memref.whole cc0_scratch12) (Memref.isWhole_whole _) (Memref.whole cc0_scratch13) (Memref.isWhole_whole _) (Memref.whole cc0_scratch14) (Memref.isWhole_whole _) (Memref.whole cc0_scratch15) (Memref.isWhole_whole _)
            (Memref.whole cc0_scratch16) (Memref.isWhole_whole _) cc0_scratch17 cc0_scratch18 cc0_scratch19 cc0_scratch20 cc0_scratch21 cc0_scratch22 cc0_scratch23 cc0_scratch24 cc0_scratch25 cc0_scratch26)
          fun _ => iprop((bigSep Finset.univ fun r : Fin 4 => Chunk fx ft fb d (result fx ft fb d) (num (cI i) (sI i) r))
            ∗ scopedBufs (thr d i) ∗ scopedSems0 (thr d i) ∗ ∃ W', ⌜∀ p ∈ W', p ∈ W ∨ p.2 = none⌝ ∗ owes (thr d i) O W') := by
  rw [body_eq, (Kc (F := F)).scopedBufs_V hF d (cV i) (jV i), SparseCore.Cfg.scopedSems0_V (Val := Elt F) d (cV i) (jV i), ownBufs_eq, ownSems_eq,
    chunks_eq, chunks_eq]
  have hout : (fun r : Fin 4 => (oAt i oV r).view.read (Elt F) (result fx ft fb d)) = answersOf (words fx d i) (table ft d) (fb d) :=
    funext fun r => read_answer fx ft fb d i r
  have hown : (bigSep Finset.univ fun r : Fin 4 => Own (F := F) d i (xM r) (icM r) (rM r) (yM r) (sxM r).sem (sgM r).sem : sProp 𝕄) = _ :=
    (bigSep_congr fun r _ => own_eq (F := F) d i (xM r) (icM r) (rM r) (yM r) (sxM r).sem (sgM r).sem).trans (bigSep_sep' _ _ _)
  have hrun := wp_body (F := F) d i xV (Memref.isWhole_whole _) tV (Memref.isWhole_whole _) bV (Memref.isWhole_whole _) oV (Memref.isWhole_whole _)
    xM icM xM_whole icM_whole rM rM_whole yM yM_whole (Memref.whole cc0_scratch16) (Memref.isWhole_whole _) sxM sgM cc0_scratch21 cc0_scratch26
    (fun r => share (num (cI i) (sI i) r)) (share (num (cI i) (sI i) 0)) (words fx d i) (fun r j => by
      show (View.read (Elt F) (xAt i xV r).view (fx d) j : BitVec 32).toNat < 500000
      exact hfx d _) (table ft d) (fb d)
    (fun r => SparseCore.sum_rowCredit_eq_dmaCredit (rM r) (gathers_S1000000_S256).axis' (by intro s'; match r with | 0 => rfl | 1 => rfl | 2 => rfl | 3 => rfl)) O W
  rw [hown] at hrun
  have hin : (bigSep Finset.univ fun r : Fin 4 => iprop(Reads d i xV tV (share (num (cI i) (sI i) r)) (words fx d i r) (table ft d) r
        ∗ At d i (oAt i oV r) fullShare ((oAt i oV r).view.read (Elt F) fo)) : sProp 𝕄)
      ⊢ bigSep Finset.univ fun r : Fin 4 => iprop(Reads d i xV tV (share (num (cI i) (sI i) r)) (words fx d i r) (table ft d) r
        ∗ ∃ g, At (F := F) d i (oAt i oV r) fullShare g) :=
    bigSep_mono fun r _ => sep_mono_right (at_some d i (oAt i oV r) fullShare _)
  iintro ⟨Hlv, -, ⟨Hc, Hb, Hun⟩, ⟨Hbufs, Hbv, Hother⟩, ⟨Hsems, ⟨Hso, Hsb⟩, Hother'⟩, HO⟩
  ihave Hmw := (show levAts (Kc (F := F)).L (Kc (F := F)).lev ⊢ Transfers.MayWaits (thr d i) (default : HIx 1) O from
    (Kc (F := F)).mayWaits_none (thr := thr d i) hO) $$ Hlv
  ihave Hb := (Entails.of_eq (bigSep_four (F := F) _)) $$ Hb
  icases Hb with ⟨Hb0, Hb1, Hb2, Hb3⟩
  iapply (wp_wand frame (wpE (defs₀ (F := F)) 𝒱₀ (thr d i) none) Set.univ) $$ [Hmw Hc Hb0 Hbufs Hbv Hsems Hso Hsb HO]
  · iapply hrun
    isplitl [Hmw]; · iexact Hmw
    isplitl [Hc]
    · iapply hin $$ Hc
    isplitl [Hb0]; · iexact Hb0
    isplitl [Hbufs Hsems]; · isplitl [Hbufs] <;> iassumption
    isplitl [Hbv]; · iexact Hbv
    isplitl [Hso]; · iexact Hso
    isplitl [Hsb]; · iexact Hsb
    iexists W; isplitr
    · ipureintro; exact fun p hp => .inl hp
    · iexact HO
  iintro %u ⟨Hc, Hb0, ⟨Hbufs, Hsems⟩, Hbv, Hso, Hsb, HO⟩
  isplitl [Hc Hb0 Hb1 Hb2 Hb3 Hun]
  · isplitl [Hc]
    · iapply (Entails.of_eq (bigSep_congr fun r _ => by rw [← congrFun hout r])) $$ Hc
    isplitl [Hb0 Hb1 Hb2 Hb3]
    · iapply (Entails.of_eq (bigSep_four (F := F) _).symm)
      isplitl [Hb0]; · iexact Hb0
      isplitl [Hb1]; · iexact Hb1
      isplitl [Hb2] <;> iassumption
    iexact Hun
  isplitl [Hbufs Hbv Hother]
  · isplitl [Hbufs]; · iexact Hbufs
    isplitl [Hbv] <;> iassumption
  isplitl [Hsems Hso Hsb Hother']
  · isplitl [Hsems]; · iexact Hsems
    isplitl [Hso Hsb]; · isplitl [Hso] <;> iassumption
    iexact Hother'
  iexact HO

end Cert.Proof.K
end
-- ==== Proof.Launch.lean ====
/-
  The call (`tileObl`, `vecSplit`, `whole_chunks`): what the TensorCore hands over is the four operands whole, which are
  the 128 chunks' resources; each SparseCore takes its 64 chunks, each tile its four, and each chunk comes back with its
  elements of the result.
-/
module

public import proofs.«01_k».proof.Proof.Task
public import Idealize.ShloMosaic.Lib.SparseCore.Quiescent
public import Idealize.ShloMosaic.Lib.StableHlo.Run
public import Idealize.ShloMosaic.Lib.Pipeline.Kit

@[expose] public section

noncomputable section

namespace Cert.Proof.K

open Cert.KernelIdeal Facts₀ Facts
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## The program as the launch theorem sees it -/

abbrev Dc : Defs nD τ sig (Elt F) (ΛP (F := F)) := Pipeline.defs pcfgs defs₀
abbrev 𝒱 : Variants := 𝒱₀.lift
abbrev v₀ : 𝒱.V := Sum.inl none
abbrev EH : Emb (URounds (GSem nD τ sig) ℕ) 𝕄 := embL

theorem callFacts : (Kc (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (Kc (F := F)).nCore 0 = 2 := rfl
theorem nSub_zero : (Kc (F := F)).nSub 0 = 16 := rfl

variable (fx : (d : Dev nD) → Buf (Elt F) (xLoc d)) (ft : (d : Dev nD) → Buf (Elt F) (tLoc d)) (fb : (d : Dev nD) → Buf (Elt F) (bLoc d))
  (fo : (d : Dev nD) → Buf (Elt F) (oLoc d))

/-! ## What is handed to whom -/

/-- A tile's four chunks, and a SparseCore's sixteen tiles of them. -/
abbrev tileChunks (d : Dev nD) (g : Buf (Elt F) (oLoc d)) (c : Fin 2) (s : Fin 16) : sProp 𝕄 :=
  bigSep Finset.univ fun r : Fin 4 => Chunk fx ft fb d g (num c s r)
abbrev coreChunks (d : Dev nD) (g : Buf (Elt F) (oLoc d)) (c : Fin 2) : sProp 𝕄 :=
  bigSep Finset.univ fun s : Fin 16 => tileChunks fx ft fb d g c s

def P : (Kc (F := F)).Pay (nD := nD) (Val := Elt F) (Name := ℕ) (U := UU) where
  st := fun q d c => match q with | 0 => coreChunks fx ft fb d (fo d) (Fin.cast nCore_zero c)
  dn := fun q d c => match q with | 0 => coreChunks fx ft fb d (result fx ft fb d) (Fin.cast nCore_zero c)
  go := fun q d c i => match q with | 0 => tileChunks fx ft fb d (fo d) (Fin.cast nCore_zero c) (Fin.cast nSub_zero i)
  td := fun q d c i => match q with | 0 => tileChunks fx ft fb d (result fx ft fb d) (Fin.cast nCore_zero c) (Fin.cast nSub_zero i)
  x := fun _ _ => iprop(emp)

instance P_storable : (P (F := F) fx ft fb fo).IsStorable where
  st q d c := match q with | 0 => (inferInstance : BI.Storable (upEmb : UEmb _ 𝕄) (coreChunks fx ft fb d (fo d) (Fin.cast nCore_zero c)))
  dn q d c := match q with | 0 => (inferInstance : BI.Storable (upEmb : UEmb _ 𝕄) (coreChunks fx ft fb d (result fx ft fb d) (Fin.cast nCore_zero c)))
  go q d c i := match q with
    | 0 => (inferInstance : BI.Storable (upEmb : UEmb _ 𝕄) (tileChunks fx ft fb d (fo d) (Fin.cast nCore_zero c) (Fin.cast nSub_zero i)))
  td q d c i := match q with
    | 0 => (inferInstance : BI.Storable (upEmb : UEmb _ 𝕄) (tileChunks fx ft fb d (result fx ft fb d) (Fin.cast nCore_zero c) (Fin.cast nSub_zero i)))

theorem vecSplit : (Kc (F := F)).VecSplit' (P fx ft fb fo) 0 := by
  intro d c
  show coreChunks fx ft fb d (fo d) (Fin.cast nCore_zero c) ⊢ |={Set.univ}=> iprop(coreChunks fx ft fb d (fo d) (Fin.cast nCore_zero c)
    ∗ (coreChunks fx ft fb d (result fx ft fb d) (Fin.cast nCore_zero c) -∗ coreChunks fx ft fb d (result fx ft fb d) (Fin.cast nCore_zero c)))
  iintro H; imodintro
  isplitl [H]; · iexact H
  iintro H; iexact H

/-! ## The operands whole are the chunks -/

/-- The chunks numbered by SparseCore, subcore and round. -/
def numbering : Fin 2 × Fin 16 × Fin 4 ≃ Fin 128 where
  toFun p := num p.1 p.2.1 p.2.2
  invFun n := (⟨n.val / 4 % 2, Nat.mod_lt _ (by decide)⟩, ⟨n.val / 8, by omega⟩, ⟨n.val % 4, Nat.mod_lt _ (by decide)⟩)
  left_inv := fun ⟨c, s, r⟩ => by
    refine Prod.ext (Fin.ext ?_) (Prod.ext (Fin.ext ?_) (Fin.ext ?_))
    · show ((s.val * 2 + c.val) * 4 + r.val) / 4 % 2 = c.val; omega
    · show ((s.val * 2 + c.val) * 4 + r.val) / 8 = s.val; omega
    · show ((s.val * 2 + c.val) * 4 + r.val) % 4 = r.val; omega
  right_inv n := Fin.ext (by show (n.val / 8 * 2 + n.val / 4 % 2) * 4 + n.val % 4 = n.val; omega)

theorem shares_eq (ℓ : Loc nD τ sig) (f : Buf (Elt F) ℓ) : (ℓ ↦{fullShare} f : sProp 𝕄) = bigSep Finset.univ fun n : Fin 128 => ℓ ↦{share n} f :=
  ShareLeaves.pointsTo_leaves Finset.univ f 7 fullShare

theorem parts_eq (d : Dev nD) (g : Buf (Elt F) (oLoc d)) :
    (oLoc d ↦{fullShare} g : sProp 𝕄) = bigSep Finset.univ fun n : Fin 128 => oLoc d ↦[oSet n]{fullShare} g := by
  have h := pointsTo_biUnion (Ix := HIx 1) (Name := ℕ) (U := UU) (Lvl := ℕ) (ℓ := oLoc d) (q := fullShare) (f := g) Finset.univ oSet
    (fun i _ j _ hij => Rect.part_disjoint odiv hij)
  rw [show Finset.univ.biUnion oSet = Finset.univ from Rect.biUnion_part odiv] at h
  exact h

theorem whole_chunks (d : Dev nD) (g : Buf (Elt F) (oLoc d)) :
    (iprop((xLoc d ↦{fullShare} fx d) ∗ (tLoc d ↦{fullShare} ft d) ∗ (bLoc d ↦{fullShare} fb d) ∗ oLoc d ↦{fullShare} g) : sProp 𝕄)
      = bigSep Finset.univ fun c : Fin 2 => coreChunks fx ft fb d g c := by
  rw [shares_eq (xLoc d), shares_eq (tLoc d), shares_eq (bLoc d), parts_eq, ← bigSep_sep', ← bigSep_sep', ← bigSep_sep',
    bigSep_univ_equiv numbering, bigSep_univ_prod]
  exact bigSep_congr fun c _ => bigSep_univ_prod _

theorem st_eq (d : Dev nD) : (bigSep Finset.univ fun c : Fin ((Kc (F := F)).nCore 0) => (P fx ft fb fo).st 0 d c : sProp 𝕄)
    = iprop((xLoc d ↦{fullShare} fx d) ∗ (tLoc d ↦{fullShare} ft d) ∗ (bLoc d ↦{fullShare} fb d) ∗ oLoc d ↦{fullShare} fo d) :=
  (whole_chunks fx ft fb d (fo d)).symm
theorem dn_eq (d : Dev nD) : (bigSep Finset.univ fun c : Fin ((Kc (F := F)).nCore 0) => (P fx ft fb fo).dn 0 d c : sProp 𝕄)
    = iprop((xLoc d ↦{fullShare} fx d) ∗ (tLoc d ↦{fullShare} ft d) ∗ (bLoc d ↦{fullShare} fb d) ∗ oLoc d ↦{fullShare} result fx ft fb d) :=
  (whole_chunks fx ft fb d (result fx ft fb d)).symm

/-! ## The task's obligation -/

abbrev coords (c : Fin (grid0.bound 0)) (s : Fin (grid0.bound 1)) : grid0.Coords :=
  fun | 0 => c | 1 => s | ⟨_ + 2, h⟩ => absurd h (Nat.not_lt.2 (Nat.le_add_left _ _))

theorem post_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hfx : ∀ d w, (fx d w : BitVec 32).toNat < 500000) : (Kc (F := F)).TileObl (Dc (F := F)) 𝒱 (P fx ft fb fo) v₀ 0 := by
  intro d c i O W hO _ _
  simp only [show (P fx ft fb fo).ox = fun _ _ => 0 from rfl, add_zero]
  have hci : ((Kc (F := F)).core 0 c).val < grid0.bound 0 ∧ ((Kc (F := F)).sub 0 i).val < grid0.bound 1 := ⟨c.isLt, i.isLt⟩
  change _ ⊢ wp _ _ _ (Pipeline.liftProg (defs₀ (F := F) (.scVector ((Kc (F := F)).core 0 c) ((Kc (F := F)).sub 0 i)) 0 ())) _
  refine BI.Entails.trans ?_ (Pipeline.wp_liftProg (Dc (F := F)) (Pipeline.defs_kernel pcfgs defs₀) 𝒱₀ _ Set.univ none _ _)
  rw [show ∀ (c : Fin τ.nSC) (s : Fin τ.nSub), defs₀ (F := F) (.scVector c s) 0 () = SparseCore.onTile hcore0 hsub0 (fun c s => cc0__body (coords c s) xV (Memref.isWhole_whole _)
    tV (Memref.isWhole_whole _) bV (Memref.isWhole_whole _) oV (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole cc0_scratch14) (Memref.isWhole_whole _) (Memref.whole cc0_scratch15) (Memref.isWhole_whole _)
    (Memref.whole cc0_scratch16) (Memref.isWhole_whole _) cc0_scratch17 cc0_scratch18 cc0_scratch19 cc0_scratch20 cc0_scratch21 cc0_scratch22 cc0_scratch23 cc0_scratch24 cc0_scratch25 cc0_scratch26)
    ⟨⟩ c s from fun _ _ => rfl]
  simp only [SparseCore.onTile, hci, and_self, ↓reduceDIte]
  exact (tile_body fx ft fb callFacts hfx d (coords ⟨_, hci.1⟩ ⟨_, hci.2⟩) (fo d) O W hO).trans (wp_mono frame _ _ fun _ => post_weaken)

/-! ## The launch's own ghost state -/

def u₀ : UU := (initOf (Kc (F := F)).hsCells (Kc (F := F)).hsToks, 1)

theorem launch_ghost : (ownU (u₀ (F := F)) : sProp 𝕄)
    ⊢ |={Set.univ}=> iprop(BI.own (EH (initOf (Kc (F := F)).hsCells (Kc (F := F)).hsToks)) ∗ (bigSep Finset.univ fun _ : Dev nD => iprop(emp))
        ∗ bigSep Finset.univ fun t : Thread nD τ => bigSep Finset.univ fun q : Fin 1 => (P fx ft fb fo).x q t) := by
  unfold u₀
  rw [show (bigSep Finset.univ fun t : Thread nD τ => bigSep Finset.univ fun q : Fin 1 => (P (F := F) fx ft fb fo).x q t) = bigSep Finset.univ fun _ => iprop(emp) from
    bigSep_congr fun _ _ => bigSep_univ_of_subsingleton (0 : Fin 1)]
  have he : ∀ {I : Type} (s : Finset I), (bigSep s fun _ => iprop(emp)) = (iprop(emp) : sProp 𝕄) := fun s => bigSep_emp_const s
  rw [he, he]
  iintro Hu
  ihave H := (ownU_pair (initOf (Kc (F := F)).hsCells (Kc (F := F)).hsToks) (1 : Counters)) $$ Hu
  icases H with ⟨HH, -⟩
  imodintro
  isplitl [HH]; · iexact HH
  isplitr <;> iempintro

end Cert.Proof.K
end
-- ==== Proof.Main.lean ====
/-
  The kernel's run (`run_main`): the TensorCore flattens the arguments, spreads the bias over sixteen lanes, calls the
  SparseCores and reshapes what they leave. Every weakly fair execution ends, the arguments unchanged, the result at
  `kernelResult`, every semaphore at zero.
-/
module

public import proofs.«01_k».proof.Proof.Launch

@[expose] public section

noncomputable section

namespace Cert.Proof.K

open Cert.KernelIdeal Facts₀ Facts
open Idealize.ShloMosaic
open Idealize.ShloMosaic.StableHlo (held wp_hlo_within)
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## The host's operations -/

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)

abbrev opX : HloOp τ sig (Elt F) := StableHlo.reshape main_arg0 main_v0 (rfl : (.i32 : EltTy) = .i32) shapeCasts_S16384x2_S32768
abbrev opT : HloOp τ sig (Elt F) := StableHlo.reshape main_arg1 main_v1 (rfl : (.f32 : EltTy) = .f32) shapeCasts_S1000000x1_S1000000
abbrev opB : HloOp τ sig (Elt F) := StableHlo.unary main_arg2 main_v2 (broadcastInDim S16 ![0] bcast_S1_S16_0)
abbrev opY : HloOp τ sig (Elt F) := StableHlo.reshape main_v3 main_v4 (rfl : (.f32 : EltTy) = .f32) shapeCasts_S16384_S16384x1

/-- The TensorCore's arrays. -/
abbrev arrays : Finset (DevRef τ sig) := {a0, a1, a2, r0, r1, r2, r3, r4}

theorem opX_sub : (opX (F := F)).bufs ⊆ arrays := show ({a0, r0} : Finset (DevRef τ sig)) ⊆ arrays by decide
theorem opT_sub : (opT (F := F)).bufs ⊆ arrays := show ({a1, r1} : Finset (DevRef τ sig)) ⊆ arrays by decide
theorem opB_sub : (opB (F := F)).bufs ⊆ arrays := show ({a2, r2} : Finset (DevRef τ sig)) ⊆ arrays by decide
theorem opY_sub : (opY (F := F)).bufs ⊆ arrays := show ({r3, r4} : Finset (DevRef τ sig)) ⊆ arrays by decide

theorem held_arrays (d : Dev nD) (W : Valuation τ sig (Elt F)) :
    (held (T d) arrays W : sProp 𝕄)
      = iprop(((d, a0) ↦{fullShare} W a0) ∗ ((d, a1) ↦{fullShare} W a1) ∗ ((d, a2) ↦{fullShare} W a2) ∗ (xLoc d ↦{fullShare} W r0)
          ∗ (tLoc d ↦{fullShare} W r1) ∗ (bLoc d ↦{fullShare} W r2) ∗ (oLoc d ↦{fullShare} W r3) ∗ (d, r4) ↦{fullShare} W r4) := by
  unfold held arrays
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ) (ρ : Dev nD → PrngReg)

/-- The flat words, the flat table and the spread bias. -/
def fx (d : Dev nD) : Buf (Elt F) (xLoc d) := shapeCast S32768 (m (d, a0)) shapeCasts_S16384x2_S32768
def ft (d : Dev nD) : Buf (Elt F) (tLoc d) := shapeCast S1000000 (m (d, a1)) shapeCasts_S1000000x1_S1000000
def fb (d : Dev nD) : Buf (Elt F) (bLoc d) := broadcastInDim S16 ![0] bcast_S1_S16_0 (m (d, a2))
def fo (d : Dev nD) : Buf (Elt F) (oLoc d) := m (oLoc d)

/-- What the call leaves, and the kernel's result. -/
def called (d : Dev nD) : Buf (Elt F) (oLoc d) := result (fx m) (ft m) (fb m) d
def kernelResult (d : Dev nD) : Buf (Elt F) ((d.tc : Thread nD τ).loc main_v4) := shapeCast S16384x1 (called m d) shapeCasts_S16384_S16384x1

/-- The arrays at the launch, before the call, after it. -/
def V0 (d : Dev nD) : Valuation τ sig (Elt F) := fun b => m (d, b)
def V1 (d : Dev nD) : Valuation τ sig (Elt F) := (opB (F := F)).result ((opT (F := F)).result ((opX (F := F)).result (V0 m d)))
def V2 (d : Dev nD) : Valuation τ sig (Elt F) := Function.update (V1 m d) r3 (called m d)

theorem unscoped_held (d : Dev nD) : (unscopedBufs d (fun b => m ((SparseCore.T d).loc b)) : sProp 𝕄) = held (T d) arrays (V0 m d) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton, held_arrays]
  rfl

/-- An array that none of the three operations writes is as launched. -/
theorem V1_other (d : Dev nD) {b : DevRef τ sig} (h : b ∉ ({r0, r1, r2} : Finset (DevRef τ sig))) : V1 m d b = m (d, b) := by
  simp only [Finset.mem_insert, Finset.mem_singleton, not_or] at h
  unfold V1
  rw [(opB (F := F)).result_of_not_mem _ (show b ∉ ({r2} : Finset (DevRef τ sig)) from fun e => h.2.2 (Finset.mem_singleton.mp e)),
    (opT (F := F)).result_of_not_mem _ (show b ∉ ({r1} : Finset (DevRef τ sig)) from fun e => h.2.1 (Finset.mem_singleton.mp e)),
    (opX (F := F)).result_of_not_mem _ (show b ∉ ({r0} : Finset (DevRef τ sig)) from fun e => h.1 (Finset.mem_singleton.mp e))]
  rfl
theorem V1_x (d : Dev nD) : V1 m d r0 = fx m d := by
  unfold V1
  rw [(opB (F := F)).result_of_not_mem _ (show r0 ∉ ({r2} : Finset (DevRef τ sig)) by decide),
    (opT (F := F)).result_of_not_mem _ (show r0 ∉ ({r1} : Finset (DevRef τ sig)) by decide)]
  exact StableHlo.reshape_result _ _ _ _ _ _ _
theorem V1_t (d : Dev nD) : V1 m d r1 = ft m d := by
  unfold V1
  rw [(opB (F := F)).result_of_not_mem _ (show r1 ∉ ({r2} : Finset (DevRef τ sig)) by decide)]
  refine (StableHlo.reshape_result _ _ _ _ _ _ _).trans ?_
  rw [(opX (F := F)).result_of_not_mem _ (show a1 ∉ ({r0} : Finset (DevRef τ sig)) by decide)]
  rfl
theorem V1_b (d : Dev nD) : V1 m d r2 = fb m d := by
  unfold V1
  refine (StableHlo.unary_result _ _ _ _ _ _).trans ?_
  rw [(opT (F := F)).result_of_not_mem _ (show a2 ∉ ({r1} : Finset (DevRef τ sig)) by decide),
    (opX (F := F)).result_of_not_mem _ (show a2 ∉ ({r0} : Finset (DevRef τ sig)) by decide)]
  rfl

theorem held_before (d : Dev nD) :
    (held (T d) arrays ((opB (F := F)).result ((opT (F := F)).result ((opX (F := F)).result (V0 m d)))) : sProp 𝕄)
      = iprop(((d, a0) ↦{fullShare} m (d, a0)) ∗ ((d, a1) ↦{fullShare} m (d, a1)) ∗ ((d, a2) ↦{fullShare} m (d, a2)) ∗ (xLoc d ↦{fullShare} fx m d)
          ∗ (tLoc d ↦{fullShare} ft m d) ∗ (bLoc d ↦{fullShare} fb m d) ∗ (oLoc d ↦{fullShare} fo m d) ∗ (d, r4) ↦{fullShare} m (d, r4)) := by
  show held (T d) arrays (V1 m d) = _
  rw [held_arrays, V1_x, V1_t, V1_b, V1_other m d (by decide), V1_other m d (by decide), V1_other m d (by decide), V1_other m d (by decide), V1_other m d (by decide)]
  rfl

theorem held_after (d : Dev nD) :
    (held (T d) arrays (V2 m d) : sProp 𝕄)
      = iprop(((d, a0) ↦{fullShare} m (d, a0)) ∗ ((d, a1) ↦{fullShare} m (d, a1)) ∗ ((d, a2) ↦{fullShare} m (d, a2)) ∗ (xLoc d ↦{fullShare} fx m d)
          ∗ (tLoc d ↦{fullShare} ft m d) ∗ (bLoc d ↦{fullShare} fb m d) ∗ (oLoc d ↦{fullShare} called m d) ∗ (d, r4) ↦{fullShare} m (d, r4)) := by
  rw [held_arrays, show V2 m d r3 = called m d from Function.update_self _ _ _]
  unfold V2
  rw [Function.update_of_ne (show a0 ≠ r3 by decide), Function.update_of_ne (show a1 ≠ r3 by decide), Function.update_of_ne (show a2 ≠ r3 by decide),
    Function.update_of_ne (show r0 ≠ r3 by decide), Function.update_of_ne (show r1 ≠ r3 by decide), Function.update_of_ne (show r2 ≠ r3 by decide),
    Function.update_of_ne (show r4 ≠ r3 by decide), V1_x, V1_t, V1_b, V1_other m d (by decide), V1_other m d (by decide), V1_other m d (by decide), V1_other m d (by decide)]

/-- What the claims read: the arguments as launched, the result. -/
abbrev FIN (d : Dev nD) : sProp 𝕄 :=
  iprop(((d, a0) ↦{fullShare} m (d, a0)) ∗ ((d, a1) ↦{fullShare} m (d, a1)) ∗ ((d, a2) ↦{fullShare} m (d, a2)) ∗ (d, r4) ↦{fullShare} kernelResult m d)

theorem held_end (d : Dev nD) : (held (T d) arrays ((opY (F := F)).result (V2 m d)) : sProp 𝕄) ⊢ FIN m d := by
  have h : ∀ b, b ∉ ({r3, r4} : Finset (DevRef τ sig)) → (opY (F := F)).result (V2 m d) b = V1 m d b := by
    intro b hb
    simp only [Finset.mem_insert, Finset.mem_singleton, not_or] at hb
    rw [(opY (F := F)).result_of_not_mem _ (show b ∉ ({r4} : Finset (DevRef τ sig)) from fun e => hb.2 (Finset.mem_singleton.mp e))]
    exact Function.update_of_ne hb.1 _ _
  have h4 : (opY (F := F)).result (V2 m d) r4 = kernelResult m d := by
    refine (StableHlo.reshape_result _ _ _ _ _ _ _).trans ?_
    rw [show V2 m d r3 = called m d from Function.update_self _ _ _]
    rfl
  rw [held_arrays, h4, h a0 (by decide), h a1 (by decide), h a2 (by decide), V1_other m d (by decide), V1_other m d (by decide), V1_other m d (by decide)]
  iintro ⟨H0, H1, H2, -, -, -, -, H4⟩
  isplitl [H0]; · iexact H0
  isplitl [H1]; · iexact H1
  isplitl [H2] <;> iassumption

/-! ## @main -/

abbrev Pm : (Kc (F := F)).Pay (nD := nD) (Val := Elt F) (Name := ℕ) (U := UU) := P (fx m) (ft m) (fb m) (fo m)

/-- @main on device `d`: the three operations before the call, the call, the reshape after it. -/
theorem main_wp (κ : GSem nD τ sig → ℕ) (d : Dev nD) :
    iprop((Kc (F := F)).ctx EH (Pm m) κ ∗ (Kc (F := F)).tcSt EH d 0 ∗ (Kc (F := F)).tcRes m ρ d ∗ emp)
      ⊢ wp frame (wpE ((Kc (F := F)).defs (Dc (F := F))) 𝒱 (T d) none) Set.univ (main d)
          fun _ => iprop((Kc (F := F)).tcSt EH d 1 ∗ FIN m d ∗ (Kc (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (T d) none Set.univ (op := opX) (S := arrays) opX_sub (V := V0 m d)) $$ [Hb Hheld]
  · isplitl [Hb] <;> iassumption
  iintro ⟨Hb, Hheld⟩
  rw [wp_ret]; imodintro
  iapply (wp_hlo_within 𝒱 (T d) none Set.univ (op := opT) (S := arrays) opT_sub (V := (opX (F := F)).result (V0 m d))) $$ [Hb Hheld]
  · isplitl [Hb] <;> iassumption
  iintro ⟨Hb, Hheld⟩
  rw [wp_ret]; imodintro
  iapply (wp_hlo_within 𝒱 (T d) none Set.univ (op := opB) (S := arrays) opB_sub (V := (opT (F := F)).result ((opX (F := F)).result (V0 m d)))) $$ [Hb Hheld]
  · isplitl [Hb] <;> iassumption
  iintro ⟨Hb, Hheld⟩
  rw [wp_ret]; imodintro
  ihave Hh := (Entails.of_eq (held_before (F := F) m d)) $$ Hheld
  icases Hh with ⟨H0, H1, H2, Hx, Ht, Hbias, Ho, H4⟩
  iapply ((Kc (F := F)).wp_run (Dc (F := F)) 𝒱 (EH := EH) (P := Pm m) κ d 0) $$ [Hst Hx Ht Hbias Ho Hb H0 H1 H2 H4 Hts]
  isplitr; · iexact Hctx
  isplitl [Hst]; · iexact Hst
  isplitl [Hx Ht Hbias Ho]
  · rw [st_eq]
    isplitl [Hx]; · iexact Hx
    isplitl [Ht]; · iexact Ht
    isplitl [Hbias]; · iexact Hbias
    iexact Ho
  iintro ⟨Hst, Hdn⟩
  ihave Hdn' := (Entails.of_eq (dn_eq (fx m) (ft m) (fb m) (fo m) d)) $$ Hdn
  icases Hdn' with ⟨Hx, Ht, Hbias, Ho⟩
  iapply (wp_hlo_within 𝒱 (T d) none Set.univ (op := opY) (S := arrays) opY_sub (V := V2 m d)) $$ [Hb H0 H1 H2 Hx Ht Hbias Ho H4]
  · isplitl [Hb]; · iexact Hb
    rw [held_after]
    isplitl [H0]; · iexact H0
    isplitl [H1]; · iexact H1
    isplitl [H2]; · iexact H2
    isplitl [Hx]; · iexact Hx
    isplitl [Ht]; · iexact Ht
    isplitl [Hbias]; · iexact Hbias
    isplitl [Ho]; · iexact Ho
    iexact H4
  iintro ⟨Hb, Hheld⟩
  rw [wp_ret]; imodintro; imodintro
  isplitl [Hst]; · iexact Hst
  isplitl [Hheld]; · iapply (held_end m d) $$ Hheld
  isplitl [Hb] <;> iassumption

/-! ## The run -/

/-- What the claims read of device `d`'s memory at the end. -/
def Ended (d : Dev nD) (s : Phys nD τ sig (Elt F)) : Prop :=
  s.mem.mem (d, r4) = kernelResult m d ∧ s.mem.mem (d, a0) = m (d, a0) ∧ s.mem.mem (d, a1) = m (d, a1) ∧ s.mem.mem (d, a2) = m (d, a2)

/-- A whole array held is what the memory holds. -/
theorem held_read (s : Phys nD τ sig (Elt F)) (ℓ : Loc nD τ sig) (f : Buf (Elt F) ℓ) :
    iprop(SI s ∗ ℓ ↦{fullShare} f) ⊢ (iprop(⌜s.mem.mem ℓ = f⌝ ∗ SI s) : sProp 𝕄) := by
  iintro H
  ihave H := (persistent_entails_right (SI_pointsTo_agree (st := s) (ℓ := ℓ) (I := Finset.univ) (q := fullShare) (f := f))) $$ H
  icases H with ⟨%h, HSI, -⟩
  isplitr
  · ipureintro; exact funext fun i => h i (Finset.mem_univ i)
  · iexact HSI

theorem ended_of_fin (d : Dev nD) (s : Phys nD τ sig (Elt F)) : iprop(FIN m d ∗ SI s) ⊢ (⌜Ended m d s⌝ : sProp 𝕄) := by
  iintro ⟨⟨H0, H1, H2, H4⟩, HSI⟩
  ihave H := (held_read s (d, a0) _) $$ [HSI H0]
  · isplitl [HSI] <;> iassumption
  icases H with ⟨%h0, HSI⟩
  ihave H := (held_read s (d, a1) _) $$ [HSI H1]
  · isplitl [HSI] <;> iassumption
  icases H with ⟨%h1, HSI⟩
  ihave H := (held_read s (d, a2) _) $$ [HSI H2]
  · isplitl [HSI] <;> iassumption
  icases H with ⟨%h2, HSI⟩
  ihave H := (held_read s (d, r4) _) $$ [HSI H4]
  · isplitl [HSI] <;> iassumption
  icases H with ⟨%h4, -⟩
  ipureintro; exact ⟨h4, h0, h1, h2⟩

def Post : PUnit × MemSt nD τ sig (Elt F) → Prop := fun r =>
  (∀ c : Dev nD, r.2.mem ((c.tc : Thread nD τ).loc main_v4) = kernelResult m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0

/-- Every word of the first argument below 500000, so that the words name rows of the table. -/
def InRange : Prop := ∀ (d : Dev nD) (j : S16384x2.Idx), (m ((d.tc : Thread nD τ).loc main_arg0) j : BitVec 32).toNat < 500000

theorem run_main (hm : InRange m) : θ_run (Cert.KernelIdeal.defs (F := F)) (Cert.KernelIdeal.threads (F := F)) ⟨m, fun _ => 0, ρ⟩ (Post m) :=
  SparseCore.Cfg.θ_run_sc_quiescent (K := Kc (F := F)) (D := Dc (F := F)) (𝒱 := 𝒱) (EH := EH) (P := Pm m) (A := ∅) callFacts v₀
    (fun q hq => match q with | 0 => nomatch hq)
    (fun q _ => match q with | 0 => tileObl (fx m) (ft m) (fb m) (fo m) (fun d w => hm d (Shape.reshapeEquiv shapeCasts_S16384x2_S32768 w)))
    (fun q _ => match q with | 0 => SparseCore.Cfg.VecSplit.of_plain (vecSplit (fx m) (ft m) (fb m) (fo m)))
    m ρ main (fun _ => iprop(emp)) (FIN m) (u₀ (F := F)) (sep_elim_left.trans (launch_ghost (fx m) (ft m) (fb m) (fo m))) (main_wp m ρ) (Ended m) (ended_of_fin m) (Post m)
    (fun _ h hz => ⟨h, hz⟩)

end Cert.Proof.K
end
-- ==== Proof.Lookup.lean ====
/-
  What both programs compute (`lookup`), element by element, and that the kernel's result is it (`kernelResult_eq`).
-/
module

public import proofs.«01_k».proof.Proof.Main

@[expose] public section

noncomputable section

namespace Cert.Proof.K

open Cert.KernelIdeal Facts₀ Facts
open Idealize.ShloMosaic

variable {F : FTy → Type} [FloatOps F] [∀ e, Nonempty (Elt F e)]

/-- Field `q` of row `p` of the first argument. -/
abbrev fieldIx (p : Fin 16384) (q : Fin 2) : S16384x2.Idx := fun a => match a with | 0 => p | 1 => q
/-- The table's row that the word `w` names. -/
abbrev rowIx (w : BitVec 32) : S1000000x1.Idx := fun a => match a with | 0 => ⟨w.toNat % 1000000, Nat.mod_lt _ (by decide)⟩ | 1 => (0 : Fin 1)
abbrev only : S1.Idx := fun a => match a with | 0 => (0 : Fin 1)

/-- For each row, the two table rows that its fields name, the second field's counted from row 500000, added, and the bias. -/
def lookup (x : S16384x2.Idx → BitVec 32) (t : S1000000x1.Idx → Elt F .f32) (b : S1.Idx → Elt F .f32) : S16384x1.Idx → Elt F .f32 := fun j =>
  FloatOps.addf (FloatOps.addf (t (rowIx (x (fieldIx (j 0) 0)))) (t (rowIx (x (fieldIx (j 0) 1) + 500000#32)))) (b only)

theorem flat_field (j : S16384.Idx) (k : Fin 2) : Shape.reshapeEquiv shapeCasts_S16384x2_S32768 (pairIx j k) = fieldIx (j 0) k := by
  refine Shape.reshapeEquiv_eq_of_rowMajor _ ?_
  rw [Shape.rowMajor_val_two, Shape.rowMajor_val_one]
  show (j 0).val * 2 + k.val = 2 * (j 0).val + k.val
  omega

theorem flat_row (w : BitVec 32) : Shape.reshapeEquiv shapeCasts_S1000000x1_S1000000 (tabIx w) = rowIx w := by
  refine Shape.reshapeEquiv_eq_of_rowMajor _ ?_
  rw [Shape.rowMajor_val_two, Shape.rowMajor_val_one]
  show w.toNat % 1000000 * 1 + 0 = w.toNat % 1000000
  omega

theorem flat_result (j : S16384x1.Idx) : ((Shape.reshapeEquiv shapeCasts_S16384_S16384x1 j : S16384.Idx) 0).val = (j 0).val := by
  have h := Shape.rowMajor_reshapeEquiv (s := S16384) (s' := S16384x1) shapeCasts_S16384_S16384x1 j
  rw [Shape.rowMajor_val_two, Shape.rowMajor_val_one] at h
  have h1 : (j 1).val < 1 := (j 1).isLt
  have h2 : (j 0).val * 1 + (j 1).val = (j 0).val := by omega
  exact h.trans h2

variable (m : (ℓ : Loc nD τ sig) → Buf (Elt F) ℓ)

theorem kernelResult_eq (d : Dev nD) :
    kernelResult m d = lookup (m ((d.tc : Thread nD τ).loc main_arg0)) (m ((d.tc : Thread nD τ).loc main_arg1)) (m ((d.tc : Thread nD τ).loc main_arg2)) := by
  funext j
  have hj : (Shape.reshapeEquiv shapeCasts_S16384_S16384x1 j : S16384.Idx) 0 = j 0 := Fin.ext (flat_result j)
  have hx : ∀ k, fx m d (pairIx (Shape.reshapeEquiv shapeCasts_S16384_S16384x1 j) k) = m ((d.tc : Thread nD τ).loc main_arg0) (fieldIx (j 0) k) := by
    intro k
    show m (d, a0) (Shape.reshapeEquiv shapeCasts_S16384x2_S32768 _) = _
    rw [flat_field, hj]
  have ht : ∀ w, ft m d (tabIx w) = m ((d.tc : Thread nD τ).loc main_arg1) (rowIx w) := by
    intro w
    show m (d, a1) (Shape.reshapeEquiv shapeCasts_S1000000x1_S1000000 _) = _
    rw [flat_row]
  have hb : ∀ l, fb m d l = m ((d.tc : Thread nD τ).loc main_arg2) only := by
    intro l
    show m (d, a2) _ = m (d, a2) _
    congr 1; funext a; match a with | 0 => exact Subsingleton.elim (α := Fin 1) _ _
  show answer1 (fx m d) (ft m d) (fb m d) (Shape.reshapeEquiv shapeCasts_S16384_S16384x1 j) = _
  unfold answer1 lookup
  rw [hb, ht, ht, hx, hx]

end Cert.Proof.K
end
-- ==== Proof.Ref.lean ====
/-
  What the reference computes (`ref_eq`): at fields in range its indices stay inside the table, so nothing is wrapped and
  nothing masked, and its sum over the fields is the two rows' sum.
-/
module

public import proofs.«01_k».proof.Proof.Lookup
public import proofs.«01_k».proof.Proof.Gen.ReferenceIdeal
public import proofs.«01_k».proof.Proof.Gen.Pre_in_range
public import Idealize.ShloMosaic.PureOps.Ideal.Laws
public import Idealize.ShloMosaic.Lib.ReduceAll

@[expose] public section

noncomputable section

namespace Cert.Proof.R

open Cert.ReferenceIdeal Facts₀ Facts
open Idealize.ShloMosaic
open Cert.Proof.K (fieldIx rowIx only lookup)

/-! ## A word below the table's length -/

theorem word_small {w : BitVec 32} (h : w.toNat < 1000000) :
    IntOp.cmpi .slt w 0#32 = 0#1 ∧ IntOp.cmpi .sge w 0#32 = 1#1 ∧ IntOp.cmpi .sle w 999999#32 = 1#1 ∧ w.toInt.toNat = w.toNat := by
  have e : w.toInt = (w.toNat : Int) := by rw [BitVec.toInt_eq_toNat_cond]; rw [if_pos (by omega)]
  have e0 : (0#32 : BitVec 32).toInt = 0 := by decide
  have e9 : (999999#32 : BitVec 32).toInt = 999999 := by decide
  refine ⟨?_, ?_, ?_, by omega⟩
  · simp only [IntOp.cmpi, BitVec.slt_eq_decide, e, e0]
    rw [decide_eq_false (by omega)]; rfl
  · simp only [IntOp.cmpi, BitVec.sle_eq_decide, e, e0]
    rw [decide_eq_true (by omega)]; rfl
  · simp only [IntOp.cmpi, BitVec.sle_eq_decide, e, e9]
    rw [decide_eq_true (by omega)]; rfl

/-! ## The precondition -/

theorem word_below {w : BitVec 32} (h : IntOp.andi (IntOp.cmpi .sge w 0#32) (IntOp.cmpi .slt w 500000#32) = 1#1) : w.toNat < 500000 := by
  have both : ∀ a b : Bool, IntOp.andi (BitVec.ofBool a) (BitVec.ofBool b) = 1#1 → a = true ∧ b = true := by decide
  obtain ⟨h0, h5⟩ := both _ _ h
  simp only [BitVec.sle_eq_decide, BitVec.slt_eq_decide, decide_eq_true_eq, BitVec.toInt_eq_toNat_cond, BitVec.toNat_ofNat] at h0 h5
  omega

/-- The precondition says of every field that it is below 500000. -/
theorem field_lt {F : FTy → Type} [FloatOps F] (x : IVec S16384x2 32) (t : FVec F S1000000x1 .f32) (b : FVec F S1 .f32)
    (h : Cert.Pre_in_range.fn (F := F) x t b = fun _ => 1#1) (j : S16384x2.Idx) : (x j).toNat < 500000 := by
  haveI : Subsingleton Cert.Pre_in_range.S_.Idx := ⟨fun _ _ => funext fun a => a.elim0⟩
  have e := congrFun h (Shape.Idx.first Cert.Pre_in_range.Facts.h_S_)
  unfold Cert.Pre_in_range.fn at e
  have e' := Host.reduce_andi_all _ _ _ _ _ e j
  exact word_below e'

/-! ## The indices -/

variable (x : IVec S16384x2 32)

/-- The fields with the second's counted from row 500000. -/
def offsetted : IVec S16384x2 32 :=
  addi x (broadcastInDim S16384x2 ![0, 1] bcast_S1x2_S16384x2_0_1 (broadcastInDim S1x2 ![1] bcast_S2_S1x2_1 (fun i => lit0 (S2.rowMajor i))))
/-- A negative index counted from the table's end. -/
def wrapped : IVec S16384x2 32 :=
  select (cmpi .slt (offsetted x) (broadcastInDim S16384x2 ![] bcast_S_S16384x2 (constantI S_ 32 0#32)))
    (addi (offsetted x) (broadcastInDim S16384x2 ![] bcast_S_S16384x2 (constantI S_ 32 1000000#32))) (offsetted x)
def indices : IVec S16384x2x1 32 := broadcastInDim S16384x2x1 ![0, 1] bcast_S16384x2_S16384x2x1_0_1 (wrapped x)
/-- Which indices are inside the table. -/
def inside : IVec S16384x2 1 :=
  Host.reduce IntOp.andi (andi (cmpi .sge (indices x) (broadcastInDim S16384x2x1 ![] bcast_S_S16384x2x1 (constantI S_ 32 0#32)))
    (cmpi .sle (indices x) (broadcastInDim S16384x2x1 ![0, 1, 2] bcast_S1x1x1_S16384x2x1_0_1_2 (broadcastInDim S1x1x1 ![2] bcast_S1_S1x1x1_2 (constantI S1 32 999999#32)))))
    (constantI S_ 1 1#1) reducesTo_S16384x2x1_S16384x2_d2 h_S_

/-- What a field names: itself, or for the second field itself and 500000. -/
def word (p : Fin 16384) (q : Fin 2) : BitVec 32 := x (fieldIx p q) + lit0 q

theorem offsetted_apply (p : Fin 16384) (q : Fin 2) : offsetted x (fieldIx p q) = word x p q := by
  show x (fieldIx p q) + lit0 (S2.rowMajor _) = _
  unfold word
  congr 2
  refine Fin.ext ?_
  rw [Shape.rowMajor_val_one]
  rfl

variable (hx : ∀ j, (x j).toNat < 500000)
include hx

theorem word_lt (p : Fin 16384) (q : Fin 2) : (word x p q).toNat < 1000000 := by
  have h := hx (fieldIx p q)
  unfold word
  match q with
  | 0 => show (x (fieldIx p 0) + 0#32).toNat < 1000000
         rw [BitVec.toNat_add, BitVec.toNat_ofNat]; omega
  | 1 => show (x (fieldIx p 1) + 500000#32).toNat < 1000000
         rw [BitVec.toNat_add, BitVec.toNat_ofNat]; omega

theorem wrapped_apply (p : Fin 16384) (q : Fin 2) : wrapped x (fieldIx p q) = word x p q := by
  show Scalar.select (IntOp.cmpi .slt (offsetted x (fieldIx p q)) 0#32) (IntOp.addi (offsetted x (fieldIx p q)) 1000000#32) (offsetted x (fieldIx p q)) = _
  rw [offsetted_apply, (word_small (word_lt x hx p q)).1]
  rfl

theorem indices_apply (j : S16384x2x1.Idx) : indices x j = word x (j 0) (j 1) := by
  refine Eq.trans ?_ (wrapped_apply x hx (j 0) (j 1))
  show wrapped x _ = _
  congr 1; funext a; match a with
  | 0 => rfl
  | 1 => rfl

theorem inside_apply (j : S16384x2.Idx) : inside x j = 1#1 := by
  unfold inside
  refine Host.reduce_andi_one _ _ _ _ j rfl fun i => ?_
  show IntOp.andi (IntOp.cmpi .sge (indices x i) 0#32) (IntOp.cmpi .sle (indices x i) 999999#32) = 1#1
  obtain ⟨-, h1, h2, -⟩ := word_small (word_lt x hx (i 0) (i 1))
  rw [indices_apply x hx, h1, h2]; rfl

/-! ## The rows -/

theorem gather_apply (t : S1000000x1.Idx → EReal) (j : S16384x2x1.Idx) :
    Host.gather gather_S1000000x1_S16384x2x1_S16384x2x1_2_0_n_n_0_2_11 t (indices x) j = t (rowIx (word x (j 0) (j 1))) := by
  unfold Host.gather
  congr 1; funext a; match a with
  | 1 => exact Subsingleton.elim (α := Fin 1) _ _
  | 0 =>
    refine Fin.ext ?_
    have hs : gather_S1000000x1_S16384x2x1_S16384x2x1_2_0_n_n_0_2_11.start j (indices x) 0 = min (word x (j 0) (j 1)).toInt.toNat 999999 := by
      unfold GatherDims.start
      rw [dif_pos (show (0 : Fin S1000000x1.rank) ∈ gather_S1000000x1_S16384x2x1_S16384x2x1_2_0_n_n_0_2_11.startIndexMap from List.mem_singleton.mpr rfl),
        indices_apply x hx]
      rfl
    show gather_S1000000x1_S16384x2x1_S16384x2x1_2_0_n_n_0_2_11.start j (indices x) 0 + _ + _ = (word x (j 0) (j 1)).toNat % 1000000
    rw [hs, (word_small (word_lt x hx (j 0) (j 1))).2.2.2,
      GatherDims.batchCoord_eq_zero _ _ _ (show (0 : Fin S1000000x1.rank) ∉ ([] : List (Fin S1000000x1.rank)) from List.not_mem_nil),
      GatherDims.offCoord_eq_zero _ _ _ (fun h => ((GatherDims.mem_sKept _ _).mp h).1 (List.mem_singleton.mpr rfl))]
    have := word_lt x hx (j 0) (j 1)
    omega

/-- The reference's result, at fields in range, is the lookup. -/
theorem ref_eq (t : FVec Ideal S1000000x1 .f32) (b : FVec Ideal S1 .f32) :
    addf (Host.reduceAdd (select (broadcastInDim S16384x2x1 ![0, 1] bcast_S16384x2_S16384x2x1_0_1 (inside x))
        (Host.gather gather_S1000000x1_S16384x2x1_S16384x2x1_2_0_n_n_0_2_11 t (indices x))
        (broadcastInDim S16384x2x1 ![] bcast_S_S16384x2x1 (constant S_ .f32 0x7FC00000#32)))
      (constant S_ .f32 0x00000000#32) reducesTo_S16384x2x1_S16384x1_d1 h_S_)
      (broadcastInDim S16384x1 ![0, 1] bcast_S1x1_S16384x1_0_1 (broadcastInDim S1x1 ![1] bcast_S1_S1x1_1 b))
      = lookup (F := Ideal) x t b := by
  have hsel : (select (broadcastInDim S16384x2x1 ![0, 1] bcast_S16384x2_S16384x2x1_0_1 (inside x))
        (Host.gather gather_S1000000x1_S16384x2x1_S16384x2x1_2_0_n_n_0_2_11 t (indices x))
        (broadcastInDim S16384x2x1 ![] bcast_S_S16384x2x1 (constant (F := Ideal) S_ .f32 0x7FC00000#32))) = fun j => t (rowIx (word x (j 0) (j 1))) := by
    funext j
    show Scalar.select (inside x _) (Host.gather gather_S1000000x1_S16384x2x1_S16384x2x1_2_0_n_n_0_2_11 t (indices x) j) _ = _
    rw [inside_apply x hx, gather_apply x hx]; rfl
  rw [hsel]
  funext j
  show Ideal.hostReduceAdd reducesTo_S16384x2x1_S16384x1_d1 _ (Ideal.ofBits .f32 0x00000000#32) j + b _ = _
  rw [Ideal.hostReduceAdd_single reducesTo_S16384x2x1_S16384x1_d1 (by decide)]
  rw [Ideal.ofBits_zero_f32, zero_add]
  have hb : ∀ i : S1.Idx, b i = b only := fun i => congrArg b (funext fun a => match a with | 0 => Subsingleton.elim (α := Fin 1) _ _)
  rw [hb]
  refine (congrArg (· + b only) (Fin.sum_univ_two _)).trans ?_
  show t (rowIx (x (fieldIx (j 0) 0) + 0#32)) + t (rowIx (x (fieldIx (j 0) 1) + 500000#32)) + b only = _
  rw [BitVec.add_zero]
  rfl

end Cert.Proof.R
end
-- ==== Proof.lean ====
/-
  The certificate. The kernel: 16384 pairs of fields, each field naming a row of a table of 1000000 rows, the second field's
  counted from row 500000; its result is for each pair the sum of the two rows and a bias (`Cert.Proof.K.lookup`). The kernel's
  run (`Cert.Proof.K.run_main`, Proof/Main.lean) is proved once, for any float values, and read here at the bits and at the
  ideal ones. The reference's run is the generated one, and its result at fields in range is the same `lookup` (Proof/Ref.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Main
public import proofs.«01_k».proof.Proof.Lookup
public import proofs.«01_k».proof.Proof.Ref
public import Idealize.ShloMosaic.Adequacy
public import Idealize.ShloMosaic.Init

@[expose] public section

noncomputable section

namespace Cert.Proof

open Idealize.ShloMosaic Idealize.SL.Sem

/-- The kernel at the bits, whose text is that of the idealized one. -/
theorem frame_kernel : Cert.quiescent_Kernel := fun m ρ hm =>
  (θ_run (Cert.KernelIdeal.defs (F := Bits)) _ _).mono (fun _ h => ⟨fun c => (h.1 c).2, h.2⟩)
    (K.run_main (F := Bits) m ρ fun d j => R.field_lt _ _ _ (hm d) j)

theorem frame_kernelIdeal : Cert.quiescent_KernelIdeal := fun m ρ hm =>
  (θ_run (Cert.KernelIdeal.defs (F := Ideal)) _ _).mono (fun _ h => ⟨fun c => (h.1 c).2, h.2⟩)
    (K.run_main (F := Ideal) m ρ fun d j => R.field_lt _ _ _ (hm d) j)

/-- The reference, which has no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- Both end holding the lookup of the arguments. -/
theorem same_value : Cert.algebraic_KernelIdeal_ReferenceIdeal := by
  intro m g m' g' hm hagree
  have hx : K.InRange m := fun d j => R.field_lt _ _ _ (hm d) j
  refine ⟨fun c => K.kernelResult m c, ?_, ?_⟩
  · exact (θ_run (Cert.KernelIdeal.defs (F := Ideal)) _ _).mono (fun _ h => h.1) (K.run_main (F := Ideal) m g hx)
  · refine (θ_run (Cert.ReferenceIdeal.defs (F := Ideal)) _ _).mono (fun r h c => ⟨?_, (h c).2⟩) (Cert.ReferenceIdeal.Value.run (F := Ideal) m' g')
    refine (h c).1.trans ?_
    rw [(hagree c).1, (hagree c).2.1, (hagree c).2.2]
    exact (R.ref_eq _ (hx c) _ _).trans (K.kernelResult_eq m c).symm

theorem claim : Cert.Claim :=
  ⟨Cert.Kernel.Gen.facts, Cert.KernelIdeal.Gen.facts, Cert.ReferenceIdeal.Gen.facts, Cert.Pre_in_range.Gen.facts,
    frame_kernel, frame_kernelIdeal, frame_reference, fun m ρ _ => frame_reference m ρ trivial, trivial, same_value⟩

end Cert.Proof

end
